-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6x14x10x1280 : Shape := ⟨4, ![6, 14, 10, 1280]⟩
abbrev S1 : Shape := ⟨1, ![1]⟩
abbrev S1920x3x3x640 : Shape := ⟨4, ![1920, 3, 3, 640]⟩
abbrev S1920 : Shape := ⟨1, ![1920]⟩
abbrev S_ : Shape := ⟨0, ![]⟩

class Facts : Prop where
  bcast_S_S1 : S_.BroadcastsInDim S1 (![] : Fin 0 → Fin S1.rank)
  bcast_S_S1920 : S_.BroadcastsInDim S1920 (![] : Fin 0 → Fin S1920.rank)

variable [Facts]

def fn {F : FTy → Type} [FloatOps F] (main_arg0 : IVec S6x14x10x1280 8) (main_arg1 : IVec S1 32) (main_arg2 : IVec S1920x3x3x640 8) (main_arg3 : IVec S1920 32) (main_arg4 : IVec S1920 32) (main_arg5 : IVec S1920 32) (main_arg6 : IVec S1 32) : IVec S1 1 × IVec S1920 1 × IVec S1920 1 × IVec S1920 1 :=
  let main_c : IVec S_ 32 := constantI S_ 32 4294967168#32
  let main_v0 : IVec S1 32 := broadcastInDim S1 ![] bcast_S_S1 main_c
  let main_v1 : IVec S1 1 := cmpi .sge main_arg1 main_v0
  let main_c_0 : IVec S_ 32 := constantI S_ 32 127#32
  let main_v2 : IVec S1 32 := broadcastInDim S1 ![] bcast_S_S1 main_c_0
  let main_v3 : IVec S1 1 := cmpi .sle main_arg1 main_v2
  let main_v4 : IVec S1 1 := andi main_v1 main_v3
  let main_c_1 : IVec S_ 32 := constantI S_ 32 4294967265#32
  let main_v5 : IVec S1920 32 := broadcastInDim S1920 ![] bcast_S_S1920 main_c_1
  let main_v6 : IVec S1920 1 := cmpi .sge main_arg5 main_v5
  let main_c_2 : IVec S_ 32 := constantI S_ 32 4294967295#32
  let main_v7 : IVec S1920 32 := broadcastInDim S1920 ![] bcast_S_S1920 main_c_2
  let main_v8 : IVec S1920 1 := cmpi .sle main_arg5 main_v7
  let main_v9 : IVec S1920 1 := andi main_v6 main_v8
  let main_c_3 : IVec S_ 32 := constantI S_ 32 2147483648#32
  let main_v10 : IVec S1920 32 := broadcastInDim S1920 ![] bcast_S_S1920 main_c_3
  let main_v11 : IVec S1920 1 := cmpi .ne main_arg4 main_v10
  let main_c_4 : IVec S_ 32 := constantI S_ 32 2147483649#32
  let main_v12 : IVec S1920 32 := broadcastInDim S1920 ![] bcast_S_S1920 main_c_4
  let main_v13 : IVec S1920 1 := cmpi .ne main_arg4 main_v12
  let main_c_5 : IVec S_ 32 := constantI S_ 32 4294967295#32
  let main_v14 : IVec S1920 32 := broadcastInDim S1920 ![] bcast_S_S1920 main_c_5
  let main_v15 : IVec S1920 1 := cmpi .ne main_arg5 main_v14
  let main_v16 : IVec S1920 1 := ori main_v13 main_v15
  (main_v4, main_v9, main_v11, main_v16)
-- ==== Kernel.lean ====
abbrev S6x14x10x1280 : Shape := ⟨4, ![6, 14, 10, 1280]⟩
abbrev S1 : Shape := ⟨1, ![1]⟩
abbrev S1920x3x3x640 : Shape := ⟨4, ![1920, 3, 3, 640]⟩
abbrev S1920 : Shape := ⟨1, ![1920]⟩
abbrev S6x10x14x1280 : Shape := ⟨4, ![6, 10, 14, 1280]⟩
abbrev S3x3x1920x640 : Shape := ⟨4, ![3, 3, 1920, 640]⟩
abbrev S1x1920 : Shape := ⟨2, ![1, 1920]⟩
abbrev S6x5x7x1920 : Shape := ⟨4, ![6, 5, 7, 1920]⟩
abbrev S2x10x256x128 : Shape := ⟨4, ![2, 10, 256, 128]⟩
abbrev S2x2x224x1280 : Shape := ⟨4, ![2, 2, 224, 1280]⟩
abbrev S2x176x1280 : Shape := ⟨3, ![2, 176, 1280]⟩
abbrev S144x1280 : Shape := ⟨2, ![144, 1280]⟩
abbrev S224x128 : Shape := ⟨2, ![224, 128]⟩
abbrev S15x224x128 : Shape := ⟨3, ![15, 224, 128]⟩
abbrev S8 : Shape := ⟨1, ![8]⟩
abbrev S_ : Shape := ⟨0, ![]⟩
abbrev S3x3x128x640 : Shape := ⟨4, ![3, 3, 128, 640]⟩
abbrev S3x3x256x640 : Shape := ⟨4, ![3, 3, 256, 640]⟩
abbrev S7x128 : Shape := ⟨2, ![7, 128]⟩
abbrev S16x128 : Shape := ⟨2, ![16, 128]⟩
abbrev S1x1x16x128 : Shape := ⟨4, ![1, 1, 16, 128]⟩
abbrev S1x1x14x1280 : Shape := ⟨4, ![1, 1, 14, 1280]⟩
abbrev S14x1280 : Shape := ⟨2, ![14, 1280]⟩
abbrev S7x1280 : Shape := ⟨2, ![7, 1280]⟩
abbrev S7x128x1 : Shape := ⟨3, ![7, 128, 1]⟩
abbrev S1x1x7x128 : Shape := ⟨4, ![1, 1, 7, 128]⟩
abbrev S1x1x32x128 : Shape := ⟨4, ![1, 1, 32, 128]⟩
abbrev S32x128 : Shape := ⟨2, ![32, 128]⟩
abbrev S1x1x24x128 : Shape := ⟨4, ![1, 1, 24, 128]⟩
abbrev S24x128 : Shape := ⟨2, ![24, 128]⟩
abbrev S8x128 : Shape := ⟨2, ![8, 128]⟩
abbrev S176x128 : Shape := ⟨2, ![176, 128]⟩
abbrev S1x176x128 : Shape := ⟨3, ![1, 176, 128]⟩
abbrev S144x128 : Shape := ⟨2, ![144, 128]⟩
abbrev S1x1x224x1280 : Shape := ⟨4, ![1, 1, 224, 1280]⟩
abbrev S224x1280 : Shape := ⟨2, ![224, 1280]⟩
abbrev S1x1x128x128 : Shape := ⟨4, ![1, 1, 128, 128]⟩
abbrev S128x128 : Shape := ⟨2, ![128, 128]⟩
abbrev S128x1280 : Shape := ⟨2, ![128, 1280]⟩
abbrev S32x1280 : Shape := ⟨2, ![32, 1280]⟩
abbrev S256x1280 : Shape := ⟨2, ![256, 1280]⟩
abbrev S224x256 : Shape := ⟨2, ![224, 256]⟩
abbrev S1x1x192x1280 : Shape := ⟨4, ![1, 1, 192, 1280]⟩
abbrev S192x1280 : Shape := ⟨2, ![192, 1280]⟩
abbrev S192x256 : Shape := ⟨2, ![192, 256]⟩
abbrev S1x176x1280 : Shape := ⟨3, ![1, 176, 1280]⟩
abbrev S176x1280 : Shape := ⟨2, ![176, 1280]⟩
abbrev S176x256 : Shape := ⟨2, ![176, 256]⟩
abbrev S144x256 : Shape := ⟨2, ![144, 256]⟩
abbrev S32x256 : Shape := ⟨2, ![32, 256]⟩
abbrev S24x256 : Shape := ⟨2, ![24, 256]⟩
abbrev S8x256 : Shape := ⟨2, ![8, 256]⟩
abbrev S1x128 : Shape := ⟨2, ![1, 128]⟩
abbrev S1x32x128 : Shape := ⟨3, ![1, 32, 128]⟩
abbrev S1x1x256x128 : Shape := ⟨4, ![1, 1, 256, 128]⟩
abbrev S256x128 : Shape := ⟨2, ![256, 128]⟩
abbrev S64x128 : Shape := ⟨2, ![64, 128]⟩
abbrev S1x7x128 : Shape := ⟨3, ![1, 7, 128]⟩
abbrev S6x7x5x1920 : Shape := ⟨4, ![6, 7, 5, 1920]⟩

abbrev nBuf : Space → Nat
  | .hbm => 14
  | .vmem => 12
  | .smem => 2
  | _ => 0

abbrev bufTy : (tb : Table) → Fin (tcTables nBuf tb) → BufTy
  | .hbm, ⟨0, _⟩ => ⟨S6x14x10x1280, .i8⟩
  | .hbm, ⟨1, _⟩ => ⟨S1, .i32⟩
  | .hbm, ⟨2, _⟩ => ⟨S1920x3x3x640, .i8⟩
  | .hbm, ⟨3, _⟩ => ⟨S1920, .i32⟩
  | .hbm, ⟨4, _⟩ => ⟨S1920, .i32⟩
  | .hbm, ⟨5, _⟩ => ⟨S1920, .i32⟩
  | .hbm, ⟨6, _⟩ => ⟨S1, .i32⟩
  | .hbm, ⟨7, _⟩ => ⟨S6x10x14x1280, .i8⟩
  | .hbm, ⟨8, _⟩ => ⟨S3x3x1920x640, .i8⟩
  | .hbm, ⟨9, _⟩ => ⟨S1x1920, .i32⟩
  | .hbm, ⟨10, _⟩ => ⟨S1x1920, .i32⟩
  | .hbm, ⟨11, _⟩ => ⟨S1x1920, .i32⟩
  | .hbm, ⟨12, _⟩ => ⟨S6x5x7x1920, .i8⟩
  | .hbm, ⟨13, _⟩ => ⟨S6x7x5x1920, .i8⟩
  | .local _ .vmem, ⟨0, _⟩ => ⟨S6x10x14x1280, .i8⟩
  | .local _ .vmem, ⟨1, _⟩ => ⟨S1x1920, .i32⟩
  | .local _ .vmem, ⟨2, _⟩ => ⟨S1x1920, .i32⟩
  | .local _ .vmem, ⟨3, _⟩ => ⟨S1x1920, .i32⟩
  | .local _ .vmem, ⟨4, _⟩ => ⟨S6x5x7x1920, .i8⟩
  | .local _ .vmem, ⟨5, _⟩ => ⟨S3x3x1920x640, .i8⟩
  | .local _ .vmem, ⟨6, _⟩ => ⟨S2x10x256x128, .i32⟩
  | .local _ .vmem, ⟨7, _⟩ => ⟨S2x2x224x1280, .bf16⟩
  | .local _ .vmem, ⟨8, _⟩ => ⟨S2x176x1280, .bf16⟩
  | .local _ .vmem, ⟨9, _⟩ => ⟨S144x1280, .bf16⟩
  | .local _ .vmem, ⟨10, _⟩ => ⟨S224x128, .i32⟩
  | .local _ .vmem, ⟨11, _⟩ => ⟨S15x224x128, .i32⟩
  | .local _ .smem, ⟨0, _⟩ => ⟨S1, .i32⟩
  | .local _ .smem, ⟨1, _⟩ => ⟨S1, .i32⟩
  | _, _ => ⟨S6x14x10x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x10x14x1280 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1920 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1920 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1920 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x5x7x1920 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S6x14x10x1280 : Shape := ⟨4, ![6, 14, 10, 1280]⟩
abbrev S1 : Shape := ⟨1, ![1]⟩
abbrev S1920x3x3x640 : Shape := ⟨4, ![1920, 3, 3, 640]⟩
abbrev S1920 : Shape := ⟨1, ![1920]⟩
abbrev S_ : Shape := ⟨0, ![]⟩
abbrev S6x15x11x1280 : Shape := ⟨4, ![6, 15, 11, 1280]⟩
abbrev S6x15x11x640 : Shape := ⟨4, ![6, 15, 11, 640]⟩
abbrev S6x7x5x1920 : Shape := ⟨4, ![6, 7, 5, 1920]⟩
abbrev S6x7x5x640 : Shape := ⟨4, ![6, 7, 5, 640]⟩
abbrev S6x7x5x1x640 : Shape := ⟨5, ![6, 7, 5, 1, 640]⟩
abbrev S1920x1x1x640 : Shape := ⟨4, ![1920, 1, 1, 640]⟩
abbrev S1920x640 : Shape := ⟨2, ![1920, 640]⟩
abbrev S1x1x1x1920x640 : Shape := ⟨5, ![1, 1, 1, 1920, 640]⟩
abbrev S6x7x5x1920x640 : Shape := ⟨5, ![6, 7, 5, 1920, 640]⟩
abbrev S1x1x1x1920 : Shape := ⟨4, ![1, 1, 1, 1920]⟩

abbrev nBuf : Space → Nat
  | .hbm => 349
  | .vmem => 0
  | .smem => 0
  | _ => 0

abbrev hbmTy0_0 (i : Nat) : BufTy := match i % 128 with
  | 0 => ⟨S6x14x10x1280, .i8⟩
  | 1 => ⟨S1, .i32⟩
  | 2 => ⟨S1920x3x3x640, .i8⟩
  | 3 => ⟨S1920, .i32⟩
  | 4 => ⟨S1920, .i32⟩
  | 5 => ⟨S1920, .i32⟩
  | 6 => ⟨S1, .i32⟩
  | 7 => ⟨S_, .i32⟩
  | 8 => ⟨S_, .i32⟩
  | 9 => ⟨S_, .i8⟩
  | 10 => ⟨S6x15x11x1280, .i8⟩
  | 11 => ⟨S1920x3x3x640, .i32⟩
  | 12 => ⟨S_, .i32⟩
  | 13 => ⟨S1920x3x3x640, .i32⟩
  | 14 => ⟨S1920x3x3x640, .i32⟩
  | 15 => ⟨S_, .i32⟩
  | 16 => ⟨S1920x3x3x640, .i32⟩
  | 17 => ⟨S1920x3x3x640, .i1⟩
  | 18 => ⟨S_, .i32⟩
  | 19 => ⟨S1920x3x3x640, .i32⟩
  | 20 => ⟨S1920x3x3x640, .i32⟩
  | 21 => ⟨S1920x3x3x640, .i32⟩
  | 22 => ⟨S1920x3x3x640, .i8⟩
  | 23 => ⟨S_, .i32⟩
  | 24 => ⟨S1920x3x3x640, .i32⟩
  | 25 => ⟨S1920x3x3x640, .i32⟩
  | 26 => ⟨S_, .i32⟩
  | 27 => ⟨S1920x3x3x640, .i32⟩
  | 28 => ⟨S1920x3x3x640, .i1⟩
  | 29 => ⟨S_, .i32⟩
  | 30 => ⟨S1920x3x3x640, .i32⟩
  | 31 => ⟨S1920x3x3x640, .i32⟩
  | 32 => ⟨S1920x3x3x640, .i32⟩
  | 33 => ⟨S1920x3x3x640, .i8⟩
  | 34 => ⟨S6x15x11x640, .i8⟩
  | 35 => ⟨S6x15x11x640, .i32⟩
  | 36 => ⟨S1920x3x3x640, .i32⟩
  | 37 => ⟨S_, .i32⟩
  | 38 => ⟨S6x7x5x1920, .i32⟩
  | 39 => ⟨S6x7x5x640, .i32⟩
  | 40 => ⟨S6x7x5x1x640, .i32⟩
  | 41 => ⟨S1920x1x1x640, .i32⟩
  | 42 => ⟨S1920x640, .i32⟩
  | 43 => ⟨S1x1x1x1920x640, .i32⟩
  | 44 => ⟨S6x7x5x1920x640, .i32⟩
  | 45 => ⟨S6x7x5x1920x640, .i32⟩
  | 46 => ⟨S6x7x5x1920x640, .i32⟩
  | 47 => ⟨S_, .i32⟩
  | 48 => ⟨S6x7x5x1920, .i32⟩
  | 49 => ⟨S6x7x5x1920, .i32⟩
  | 50 => ⟨S6x7x5x640, .i32⟩
  | 51 => ⟨S6x7x5x1x640, .i32⟩
  | 52 => ⟨S1920x1x1x640, .i32⟩
  | 53 => ⟨S1920x640, .i32⟩
  | 54 => ⟨S1x1x1x1920x640, .i32⟩
  | 55 => ⟨S6x7x5x1920x640, .i32⟩
  | 56 => ⟨S6x7x5x1920x640, .i32⟩
  | 57 => ⟨S6x7x5x1920x640, .i32⟩
  | 58 => ⟨S_, .i32⟩
  | 59 => ⟨S6x7x5x1920, .i32⟩
  | 60 => ⟨S6x7x5x1920, .i32⟩
  | 61 => ⟨S6x7x5x640, .i32⟩
  | 62 => ⟨S6x7x5x1x640, .i32⟩
  | 63 => ⟨S1920x1x1x640, .i32⟩
  | 64 => ⟨S1920x640, .i32⟩
  | 65 => ⟨S1x1x1x1920x640, .i32⟩
  | 66 => ⟨S6x7x5x1920x640, .i32⟩
  | 67 => ⟨S6x7x5x1920x640, .i32⟩
  | 68 => ⟨S6x7x5x1920x640, .i32⟩
  | 69 => ⟨S_, .i32⟩
  | 70 => ⟨S6x7x5x1920, .i32⟩
  | 71 => ⟨S6x7x5x1920, .i32⟩
  | 72 => ⟨S6x7x5x640, .i32⟩
  | 73 => ⟨S6x7x5x1x640, .i32⟩
  | 74 => ⟨S1920x1x1x640, .i32⟩
  | 75 => ⟨S1920x640, .i32⟩
  | 76 => ⟨S1x1x1x1920x640, .i32⟩
  | 77 => ⟨S6x7x5x1920x640, .i32⟩
  | 78 => ⟨S6x7x5x1920x640, .i32⟩
  | 79 => ⟨S6x7x5x1920x640, .i32⟩
  | 80 => ⟨S_, .i32⟩
  | 81 => ⟨S6x7x5x1920, .i32⟩
  | 82 => ⟨S6x7x5x1920, .i32⟩
  | 83 => ⟨S6x7x5x640, .i32⟩
  | 84 => ⟨S6x7x5x1x640, .i32⟩
  | 85 => ⟨S1920x1x1x640, .i32⟩
  | 86 => ⟨S1920x640, .i32⟩
  | 87 => ⟨S1x1x1x1920x640, .i32⟩
  | 88 => ⟨S6x7x5x1920x640, .i32⟩
  | 89 => ⟨S6x7x5x1920x640, .i32⟩
  | 90 => ⟨S6x7x5x1920x640, .i32⟩
  | 91 => ⟨S_, .i32⟩
  | 92 => ⟨S6x7x5x1920, .i32⟩
  | 93 => ⟨S6x7x5x1920, .i32⟩
  | 94 => ⟨S6x7x5x640, .i32⟩
  | 95 => ⟨S6x7x5x1x640, .i32⟩
  | 96 => ⟨S1920x1x1x640, .i32⟩
  | 97 => ⟨S1920x640, .i32⟩
  | 98 => ⟨S1x1x1x1920x640, .i32⟩
  | 99 => ⟨S6x7x5x1920x640, .i32⟩
  | 100 => ⟨S6x7x5x1920x640, .i32⟩
  | 101 => ⟨S6x7x5x1920x640, .i32⟩
  | 102 => ⟨S_, .i32⟩
  | 103 => ⟨S6x7x5x1920, .i32⟩
  | 104 => ⟨S6x7x5x1920, .i32⟩
  | 105 => ⟨S6x7x5x640, .i32⟩
  | 106 => ⟨S6x7x5x1x640, .i32⟩
  | 107 => ⟨S1920x1x1x640, .i32⟩
  | 108 => ⟨S1920x640, .i32⟩
  | 109 => ⟨S1x1x1x1920x640, .i32⟩
  | 110 => ⟨S6x7x5x1920x640, .i32⟩
  | 111 => ⟨S6x7x5x1920x640, .i32⟩
  | 112 => ⟨S6x7x5x1920x640, .i32⟩
  | 113 => ⟨S_, .i32⟩
  | 114 => ⟨S6x7x5x1920, .i32⟩
  | 115 => ⟨S6x7x5x1920, .i32⟩
  | 116 => ⟨S6x7x5x640, .i32⟩
  | 117 => ⟨S6x7x5x1x640, .i32⟩
  | 118 => ⟨S1920x1x1x640, .i32⟩
  | 119 => ⟨S1920x640, .i32⟩
  | 120 => ⟨S1x1x1x1920x640, .i32⟩
  | 121 => ⟨S6x7x5x1920x640, .i32⟩
  | 122 => ⟨S6x7x5x1920x640, .i32⟩
  | 123 => ⟨S6x7x5x1920x640, .i32⟩
  | 124 => ⟨S_, .i32⟩
  | 125 => ⟨S6x7x5x1920, .i32⟩
  | 126 => ⟨S6x7x5x1920, .i32⟩
  | 127 => ⟨S6x7x5x640, .i32⟩
  | _ => ⟨S6x14x10x1280, .i8⟩

abbrev hbmTy0_1 (i : Nat) : BufTy := match i % 128 with
  | 0 => ⟨S6x7x5x1x640, .i32⟩
  | 1 => ⟨S1920x1x1x640, .i32⟩
  | 2 => ⟨S1920x640, .i32⟩
  | 3 => ⟨S1x1x1x1920x640, .i32⟩
  | 4 => ⟨S6x7x5x1920x640, .i32⟩
  | 5 => ⟨S6x7x5x1920x640, .i32⟩
  | 6 => ⟨S6x7x5x1920x640, .i32⟩
  | 7 => ⟨S_, .i32⟩
  | 8 => ⟨S6x7x5x1920, .i32⟩
  | 9 => ⟨S6x7x5x1920, .i32⟩
  | 10 => ⟨S6x15x11x640, .i8⟩
  | 11 => ⟨S6x15x11x640, .i32⟩
  | 12 => ⟨S1920x3x3x640, .i32⟩
  | 13 => ⟨S_, .i32⟩
  | 14 => ⟨S6x7x5x1920, .i32⟩
  | 15 => ⟨S6x7x5x640, .i32⟩
  | 16 => ⟨S6x7x5x1x640, .i32⟩
  | 17 => ⟨S1920x1x1x640, .i32⟩
  | 18 => ⟨S1920x640, .i32⟩
  | 19 => ⟨S1x1x1x1920x640, .i32⟩
  | 20 => ⟨S6x7x5x1920x640, .i32⟩
  | 21 => ⟨S6x7x5x1920x640, .i32⟩
  | 22 => ⟨S6x7x5x1920x640, .i32⟩
  | 23 => ⟨S_, .i32⟩
  | 24 => ⟨S6x7x5x1920, .i32⟩
  | 25 => ⟨S6x7x5x1920, .i32⟩
  | 26 => ⟨S6x7x5x640, .i32⟩
  | 27 => ⟨S6x7x5x1x640, .i32⟩
  | 28 => ⟨S1920x1x1x640, .i32⟩
  | 29 => ⟨S1920x640, .i32⟩
  | 30 => ⟨S1x1x1x1920x640, .i32⟩
  | 31 => ⟨S6x7x5x1920x640, .i32⟩
  | 32 => ⟨S6x7x5x1920x640, .i32⟩
  | 33 => ⟨S6x7x5x1920x640, .i32⟩
  | 34 => ⟨S_, .i32⟩
  | 35 => ⟨S6x7x5x1920, .i32⟩
  | 36 => ⟨S6x7x5x1920, .i32⟩
  | 37 => ⟨S6x7x5x640, .i32⟩
  | 38 => ⟨S6x7x5x1x640, .i32⟩
  | 39 => ⟨S1920x1x1x640, .i32⟩
  | 40 => ⟨S1920x640, .i32⟩
  | 41 => ⟨S1x1x1x1920x640, .i32⟩
  | 42 => ⟨S6x7x5x1920x640, .i32⟩
  | 43 => ⟨S6x7x5x1920x640, .i32⟩
  | 44 => ⟨S6x7x5x1920x640, .i32⟩
  | 45 => ⟨S_, .i32⟩
  | 46 => ⟨S6x7x5x1920, .i32⟩
  | 47 => ⟨S6x7x5x1920, .i32⟩
  | 48 => ⟨S6x7x5x640, .i32⟩
  | 49 => ⟨S6x7x5x1x640, .i32⟩
  | 50 => ⟨S1920x1x1x640, .i32⟩
  | 51 => ⟨S1920x640, .i32⟩
  | 52 => ⟨S1x1x1x1920x640, .i32⟩
  | 53 => ⟨S6x7x5x1920x640, .i32⟩
  | 54 => ⟨S6x7x5x1920x640, .i32⟩
  | 55 => ⟨S6x7x5x1920x640, .i32⟩
  | 56 => ⟨S_, .i32⟩
  | 57 => ⟨S6x7x5x1920, .i32⟩
  | 58 => ⟨S6x7x5x1920, .i32⟩
  | 59 => ⟨S6x7x5x640, .i32⟩
  | 60 => ⟨S6x7x5x1x640, .i32⟩
  | 61 => ⟨S1920x1x1x640, .i32⟩
  | 62 => ⟨S1920x640, .i32⟩
  | 63 => ⟨S1x1x1x1920x640, .i32⟩
  | 64 => ⟨S6x7x5x1920x640, .i32⟩
  | 65 => ⟨S6x7x5x1920x640, .i32⟩
  | 66 => ⟨S6x7x5x1920x640, .i32⟩
  | 67 => ⟨S_, .i32⟩
  | 68 => ⟨S6x7x5x1920, .i32⟩
  | 69 => ⟨S6x7x5x1920, .i32⟩
  | 70 => ⟨S6x7x5x640, .i32⟩
  | 71 => ⟨S6x7x5x1x640, .i32⟩
  | 72 => ⟨S1920x1x1x640, .i32⟩
  | 73 => ⟨S1920x640, .i32⟩
  | 74 => ⟨S1x1x1x1920x640, .i32⟩
  | 75 => ⟨S6x7x5x1920x640, .i32⟩
  | 76 => ⟨S6x7x5x1920x640, .i32⟩
  | 77 => ⟨S6x7x5x1920x640, .i32⟩
  | 78 => ⟨S_, .i32⟩
  | 79 => ⟨S6x7x5x1920, .i32⟩
  | 80 => ⟨S6x7x5x1920, .i32⟩
  | 81 => ⟨S6x7x5x640, .i32⟩
  | 82 => ⟨S6x7x5x1x640, .i32⟩
  | 83 => ⟨S1920x1x1x640, .i32⟩
  | 84 => ⟨S1920x640, .i32⟩
  | 85 => ⟨S1x1x1x1920x640, .i32⟩
  | 86 => ⟨S6x7x5x1920x640, .i32⟩
  | 87 => ⟨S6x7x5x1920x640, .i32⟩
  | 88 => ⟨S6x7x5x1920x640, .i32⟩
  | 89 => ⟨S_, .i32⟩
  | 90 => ⟨S6x7x5x1920, .i32⟩
  | 91 => ⟨S6x7x5x1920, .i32⟩
  | 92 => ⟨S6x7x5x640, .i32⟩
  | 93 => ⟨S6x7x5x1x640, .i32⟩
  | 94 => ⟨S1920x1x1x640, .i32⟩
  | 95 => ⟨S1920x640, .i32⟩
  | 96 => ⟨S1x1x1x1920x640, .i32⟩
  | 97 => ⟨S6x7x5x1920x640, .i32⟩
  | 98 => ⟨S6x7x5x1920x640, .i32⟩
  | 99 => ⟨S6x7x5x1920x640, .i32⟩
  | 100 => ⟨S_, .i32⟩
  | 101 => ⟨S6x7x5x1920, .i32⟩
  | 102 => ⟨S6x7x5x1920, .i32⟩
  | 103 => ⟨S6x7x5x640, .i32⟩
  | 104 => ⟨S6x7x5x1x640, .i32⟩
  | 105 => ⟨S1920x1x1x640, .i32⟩
  | 106 => ⟨S1920x640, .i32⟩
  | 107 => ⟨S1x1x1x1920x640, .i32⟩
  | 108 => ⟨S6x7x5x1920x640, .i32⟩
  | 109 => ⟨S6x7x5x1920x640, .i32⟩
  | 110 => ⟨S6x7x5x1920x640, .i32⟩
  | 111 => ⟨S_, .i32⟩
  | 112 => ⟨S6x7x5x1920, .i32⟩
  | 113 => ⟨S6x7x5x1920, .i32⟩
  | 114 => ⟨S6x7x5x1920, .i32⟩
  | 115 => ⟨S1920x3x3x640, .i32⟩
  | 116 => ⟨S_, .i32⟩
  | 117 => ⟨S1920, .i32⟩
  | 118 => ⟨S1920x3x3x640, .i32⟩
  | 119 => ⟨S_, .i32⟩
  | 120 => ⟨S1920, .i32⟩
  | 121 => ⟨S1920, .i32⟩
  | 122 => ⟨S1920, .i32⟩
  | 123 => ⟨S1920, .i32⟩
  | 124 => ⟨S1920, .i32⟩
  | 125 => ⟨S1x1x1x1920, .i32⟩
  | 126 => ⟨S6x7x5x1920, .i32⟩
  | 127 => ⟨S6x7x5x1920, .i32⟩
  | _ => ⟨S6x14x10x1280, .i8⟩

abbrev hbmTy0_2 (i : Nat) : BufTy := match i % 128 with
  | 0 => ⟨S_, .i32⟩
  | 1 => ⟨S6x7x5x1920, .i32⟩
  | 2 => ⟨S6x7x5x1920, .i32⟩
  | 3 => ⟨S_, .i32⟩
  | 4 => ⟨S6x7x5x1920, .i32⟩
  | 5 => ⟨S6x7x5x1920, .i32⟩
  | 6 => ⟨S_, .i32⟩
  | 7 => ⟨S1920, .i32⟩
  | 8 => ⟨S1920, .i32⟩
  | 9 => ⟨S_, .i32⟩
  | 10 => ⟨S1920, .i32⟩
  | 11 => ⟨S1920, .i32⟩
  | 12 => ⟨S1x1x1x1920, .i32⟩
  | 13 => ⟨S6x7x5x1920, .i32⟩
  | 14 => ⟨S6x7x5x1920, .i32⟩
  | 15 => ⟨S1x1x1x1920, .i32⟩
  | 16 => ⟨S6x7x5x1920, .i32⟩
  | 17 => ⟨S6x7x5x1920, .i32⟩
  | 18 => ⟨S1x1x1x1920, .i32⟩
  | 19 => ⟨S6x7x5x1920, .i32⟩
  | 20 => ⟨S6x7x5x1920, .i32⟩
  | 21 => ⟨S6x7x5x1920, .i32⟩
  | 22 => ⟨S1920, .i32⟩
  | 23 => ⟨S1x1x1x1920, .i32⟩
  | 24 => ⟨S6x7x5x1920, .i32⟩
  | 25 => ⟨S6x7x5x1920, .i32⟩
  | 26 => ⟨S_, .i32⟩
  | 27 => ⟨S6x7x5x1920, .i32⟩
  | 28 => ⟨S6x7x5x1920, .i32⟩
  | 29 => ⟨S_, .i32⟩
  | 30 => ⟨S6x7x5x1920, .i32⟩
  | 31 => ⟨S6x7x5x1920, .i32⟩
  | 32 => ⟨S6x7x5x1920, .i32⟩
  | 33 => ⟨S_, .i32⟩
  | 34 => ⟨S6x7x5x1920, .i32⟩
  | 35 => ⟨S6x7x5x1920, .i32⟩
  | 36 => ⟨S6x7x5x1920, .i32⟩
  | 37 => ⟨S6x7x5x1920, .i32⟩
  | 38 => ⟨S_, .i32⟩
  | 39 => ⟨S6x7x5x1920, .i32⟩
  | 40 => ⟨S6x7x5x1920, .i32⟩
  | 41 => ⟨S_, .i32⟩
  | 42 => ⟨S6x7x5x1920, .i32⟩
  | 43 => ⟨S6x7x5x1920, .i32⟩
  | 44 => ⟨S6x7x5x1920, .i32⟩
  | 45 => ⟨S_, .i32⟩
  | 46 => ⟨S6x7x5x1920, .i32⟩
  | 47 => ⟨S6x7x5x1920, .i32⟩
  | 48 => ⟨S6x7x5x1920, .i32⟩
  | 49 => ⟨S_, .i32⟩
  | 50 => ⟨S6x7x5x1920, .i32⟩
  | 51 => ⟨S6x7x5x1920, .i32⟩
  | 52 => ⟨S_, .i32⟩
  | 53 => ⟨S6x7x5x1920, .i32⟩
  | 54 => ⟨S6x7x5x1920, .i32⟩
  | 55 => ⟨S6x7x5x1920, .i32⟩
  | 56 => ⟨S1920, .i32⟩
  | 57 => ⟨S_, .i32⟩
  | 58 => ⟨S1920, .i32⟩
  | 59 => ⟨S1920, .i32⟩
  | 60 => ⟨S_, .i32⟩
  | 61 => ⟨S1920, .i32⟩
  | 62 => ⟨S1920, .i32⟩
  | 63 => ⟨S1x1x1x1920, .i32⟩
  | 64 => ⟨S6x7x5x1920, .i32⟩
  | 65 => ⟨S6x7x5x1920, .i32⟩
  | 66 => ⟨S_, .i32⟩
  | 67 => ⟨S1920, .i32⟩
  | 68 => ⟨S1920, .i32⟩
  | 69 => ⟨S_, .i32⟩
  | 70 => ⟨S6x7x5x1920, .i32⟩
  | 71 => ⟨S6x7x5x1920, .i1⟩
  | 72 => ⟨S6x7x5x1920, .i32⟩
  | 73 => ⟨S1x1x1x1920, .i32⟩
  | 74 => ⟨S6x7x5x1920, .i32⟩
  | 75 => ⟨S6x7x5x1920, .i32⟩
  | 76 => ⟨S1x1x1x1920, .i32⟩
  | 77 => ⟨S6x7x5x1920, .i32⟩
  | 78 => ⟨S6x7x5x1920, .i32⟩
  | 79 => ⟨S6x7x5x1920, .i1⟩
  | 80 => ⟨S6x7x5x1920, .i32⟩
  | 81 => ⟨S6x7x5x1920, .i32⟩
  | 82 => ⟨S6x7x5x1920, .i32⟩
  | 83 => ⟨S6x7x5x1920, .i32⟩
  | 84 => ⟨S_, .i32⟩
  | 85 => ⟨S_, .i32⟩
  | 86 => ⟨S_, .i32⟩
  | 87 => ⟨S6x7x5x1920, .i32⟩
  | 88 => ⟨S6x7x5x1920, .i32⟩
  | 89 => ⟨S_, .i32⟩
  | 90 => ⟨S6x7x5x1920, .i32⟩
  | 91 => ⟨S6x7x5x1920, .i32⟩
  | 92 => ⟨S6x7x5x1920, .i8⟩
  | _ => ⟨S6x14x10x1280, .i8⟩

abbrev hbmTy (i : Nat) : BufTy := match i / 128 with
  | 0 => hbmTy0_0 i
  | 1 => hbmTy0_1 i
  | 2 => hbmTy0_2 i
  | _ => ⟨S6x14x10x1280, .i8⟩

abbrev bufTy : (tb : Table) → Fin (tcTables nBuf tb) → BufTy
  | .hbm, ⟨i, _⟩ => hbmTy i
  | _, _ => ⟨S6x14x10x1280, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_c_11 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_c_12 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_c_13 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_c_14 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_c_15 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_c_16 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_c_17 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_c_18 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_c_19 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_c_20 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_c_21 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_c_22 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_c_23 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_c_24 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_c_25 : Ref sig .tc := ⟨.hbm, 244, rfl⟩
abbrev main_v211 : Ref sig .tc := ⟨.hbm, 245, rfl⟩
abbrev main_v212 : Ref sig .tc := ⟨.hbm, 246, rfl⟩
abbrev main_c_26 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_c_27 : Ref sig .tc := ⟨.hbm, 256, rfl⟩
abbrev main_v221 : Ref sig .tc := ⟨.hbm, 257, rfl⟩
abbrev main_v222 : Ref sig .tc := ⟨.hbm, 258, rfl⟩
abbrev main_c_28 : Ref sig .tc := ⟨.hbm, 259, rfl⟩
abbrev main_v223 : Ref sig .tc := ⟨.hbm, 260, rfl⟩
abbrev main_v224 : Ref sig .tc := ⟨.hbm, 261, rfl⟩
abbrev main_c_29 : Ref sig .tc := ⟨.hbm, 262, rfl⟩
abbrev main_v225 : Ref sig .tc := ⟨.hbm, 263, rfl⟩
abbrev main_v226 : Ref sig .tc := ⟨.hbm, 264, rfl⟩
abbrev main_c_30 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_c_31 : Ref sig .tc := ⟨.hbm, 282, rfl⟩
abbrev main_v243 : Ref sig .tc := ⟨.hbm, 283, rfl⟩
abbrev main_v244 : Ref sig .tc := ⟨.hbm, 284, rfl⟩
abbrev main_c_32 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_c_33 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_c_34 : Ref sig .tc := ⟨.hbm, 294, rfl⟩
abbrev main_v252 : Ref sig .tc := ⟨.hbm, 295, rfl⟩
abbrev main_v253 : Ref sig .tc := ⟨.hbm, 296, rfl⟩
abbrev main_c_35 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_c_36 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_c_37 : Ref sig .tc := ⟨.hbm, 305, rfl⟩
abbrev main_v260 : Ref sig .tc := ⟨.hbm, 306, rfl⟩
abbrev main_v261 : Ref sig .tc := ⟨.hbm, 307, rfl⟩
abbrev main_c_38 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_c_39 : Ref sig .tc := ⟨.hbm, 313, rfl⟩
abbrev main_v266 : Ref sig .tc := ⟨.hbm, 314, rfl⟩
abbrev main_v267 : Ref sig .tc := ⟨.hbm, 315, rfl⟩
abbrev main_c_40 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_c_41 : Ref sig .tc := ⟨.hbm, 322, rfl⟩
abbrev main_v273 : Ref sig .tc := ⟨.hbm, 323, rfl⟩
abbrev main_v274 : Ref sig .tc := ⟨.hbm, 324, rfl⟩
abbrev main_c_42 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_c_43 : Ref sig .tc := ⟨.hbm, 340, rfl⟩
abbrev main_c_44 : Ref sig .tc := ⟨.hbm, 341, rfl⟩
abbrev main_call3_v0 : Ref sig .tc := ⟨.hbm, 342, rfl⟩
abbrev main_call3_v1 : Ref sig .tc := ⟨.hbm, 343, rfl⟩
abbrev main_call3_v2 : Ref sig .tc := ⟨.hbm, 344, rfl⟩
abbrev main_call3_v3 : Ref sig .tc := ⟨.hbm, 345, rfl⟩
abbrev main_call3_v4 : Ref sig .tc := ⟨.hbm, 346, rfl⟩
abbrev main_v289 : Ref sig .tc := ⟨.hbm, 347, rfl⟩
abbrev main_v290 : Ref sig .tc := ⟨.hbm, 348, rfl⟩

abbrev nD : Nat := 1
abbrev τ : Topo := Topo.v7x

variable {F : FTy → Type} [FloatOps F]
-- ==== Proof.Run1.lean ====
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- Stretch 1 of the run of the kernel's body, up to the call of `k0_part885`: the first component is the goal there, the second says
    that proving it proves the run's statement. -/
noncomputable def kernelRun0_A_s1 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (L6 : List (View.Piece (Elt F) S6x5x7x1920 .i8)) (LT0 : List (View.Piece (Elt F) S3x3x1920x640 .i8)) (LT1 : List (View.Piece (Elt F) S2x10x256x128 .i32)) (LT2 : List (View.Piece (Elt F) S2x2x224x1280 .bf16)) (LT3 : List (View.Piece (Elt F) S2x176x1280 .bf16)) (LT4 : List (View.Piece (Elt F) S144x1280 .bf16)) (LT5 : List (View.Piece (Elt F) S224x128 .i32)) (LT6 : List (View.Piece (Elt F) S15x224x128 .i32)) :
    Σ' (G : Prop), G →
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LT2) ∗ (∃ f, arg11.view.loc (c : Thread nD τ) ↦[arg11.view.set]{fullShare} arg11.view.writes (Elt F) f LT3) ∗ (∃ f, arg12.view.loc (c : Thread nD τ) ↦[arg12.view.set]{fullShare} arg12.view.writes (Elt F) f LT4) ∗ (∃ f, arg13.view.loc (c : Thread nD τ) ↦[arg13.view.set]{fullShare} arg13.view.writes (Elt F) f LT5) ∗ (∃ f, arg14.view.loc (c : Thread nD τ) ↦[arg14.view.set]{fullShare} arg14.view.writes (Elt F) f LT6) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ (∃ W', owes (c : Thread nD τ) 0 W')) -∗ K ⟨⟩))
          ⊢ wp frame (wpE (defs₀ (F := F)) Variants.none c none) Set.univ (cc0__body arg0 harg0 arg1 harg1 arg2 harg2 arg3 harg3 arg4 harg4 arg5 harg5 (Memref.whole main_v1) (Memref.isWhole_whole _) arg7 harg7 arg8 harg8 arg9 harg9 arg10 harg10 arg11 harg11 arg12 harg12 arg13 harg13 arg14 harg14 cc0_scratch7) K := by
    sl_stretch
    intro W K
    simp only [cc0__body_eq_skeleton]; unfold cc0__body_skel
    simp only [k0_part897_eq_skeleton]; unfold k0_part897_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hq4, Hq5, Hq6, Hq7, Hh0, HW, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5
    set_option sl_exec.stopBefore "k0_part885" in sl_exec_parts
    sl_seam

end Cert.KernelIdeal.Run
-- ==== Proof.Run2.lean ====
module

public import proofs.«01_k».proof.Proof.Run1

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- Stretch 2 of the run of the kernel's body, up to the call of `k0_part887`: the first component is the goal there, the second says
    that proving it proves the goal of stretch 1. -/
noncomputable def kernelRun0_A_s2 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (L6 : List (View.Piece (Elt F) S6x5x7x1920 .i8)) (LT0 : List (View.Piece (Elt F) S3x3x1920x640 .i8)) (LT1 : List (View.Piece (Elt F) S2x10x256x128 .i32)) (LT2 : List (View.Piece (Elt F) S2x2x224x1280 .bf16)) (LT3 : List (View.Piece (Elt F) S2x176x1280 .bf16)) (LT4 : List (View.Piece (Elt F) S144x1280 .bf16)) (LT5 : List (View.Piece (Elt F) S224x128 .i32)) (LT6 : List (View.Piece (Elt F) S15x224x128 .i32)) :
    Σ' (G : Prop), G →
      (kernelRun0_A_s1 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 L6 LT0 LT1 LT2 LT3 LT4 LT5 LT6).1 := by
    sl_stretch
    sl_resume
    set_option sl_exec.stopBefore "k0_part887" in sl_exec_parts
    sl_seam

end Cert.KernelIdeal.Run
-- ==== Proof.Run3.lean ====
module

public import proofs.«01_k».proof.Proof.Run2

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- Stretch 3 of the run of the kernel's body, up to the call of `k0_part889`: the first component is the goal there, the second says
    that proving it proves the goal of stretch 2. -/
noncomputable def kernelRun0_A_s3 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (L6 : List (View.Piece (Elt F) S6x5x7x1920 .i8)) (LT0 : List (View.Piece (Elt F) S3x3x1920x640 .i8)) (LT1 : List (View.Piece (Elt F) S2x10x256x128 .i32)) (LT2 : List (View.Piece (Elt F) S2x2x224x1280 .bf16)) (LT3 : List (View.Piece (Elt F) S2x176x1280 .bf16)) (LT4 : List (View.Piece (Elt F) S144x1280 .bf16)) (LT5 : List (View.Piece (Elt F) S224x128 .i32)) (LT6 : List (View.Piece (Elt F) S15x224x128 .i32)) :
    Σ' (G : Prop), G →
      (kernelRun0_A_s2 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 L6 LT0 LT1 LT2 LT3 LT4 LT5 LT6).1 := by
    sl_stretch
    sl_resume
    set_option sl_exec.stopBefore "k0_part889" in sl_exec_parts
    sl_seam

end Cert.KernelIdeal.Run
-- ==== Proof.Run4.lean ====
module

public import proofs.«01_k».proof.Proof.Run3

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- Stretch 4 of the run of the kernel's body, up to the call of `k0_part891`: the first component is the goal there, the second says
    that proving it proves the goal of stretch 3. -/
noncomputable def kernelRun0_A_s4 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (L6 : List (View.Piece (Elt F) S6x5x7x1920 .i8)) (LT0 : List (View.Piece (Elt F) S3x3x1920x640 .i8)) (LT1 : List (View.Piece (Elt F) S2x10x256x128 .i32)) (LT2 : List (View.Piece (Elt F) S2x2x224x1280 .bf16)) (LT3 : List (View.Piece (Elt F) S2x176x1280 .bf16)) (LT4 : List (View.Piece (Elt F) S144x1280 .bf16)) (LT5 : List (View.Piece (Elt F) S224x128 .i32)) (LT6 : List (View.Piece (Elt F) S15x224x128 .i32)) :
    Σ' (G : Prop), G →
      (kernelRun0_A_s3 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 L6 LT0 LT1 LT2 LT3 LT4 LT5 LT6).1 := by
    sl_stretch
    sl_resume
    set_option sl_exec.stopBefore "k0_part891" in sl_exec_parts
    sl_seam

end Cert.KernelIdeal.Run
-- ==== Proof.Run5.lean ====
module

public import proofs.«01_k».proof.Proof.Run4

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- Stretch 5 of the run of the kernel's body, up to the call of `k0_part893`: the first component is the goal there, the second says
    that proving it proves the goal of stretch 4. -/
noncomputable def kernelRun0_A_s5 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (L6 : List (View.Piece (Elt F) S6x5x7x1920 .i8)) (LT0 : List (View.Piece (Elt F) S3x3x1920x640 .i8)) (LT1 : List (View.Piece (Elt F) S2x10x256x128 .i32)) (LT2 : List (View.Piece (Elt F) S2x2x224x1280 .bf16)) (LT3 : List (View.Piece (Elt F) S2x176x1280 .bf16)) (LT4 : List (View.Piece (Elt F) S144x1280 .bf16)) (LT5 : List (View.Piece (Elt F) S224x128 .i32)) (LT6 : List (View.Piece (Elt F) S15x224x128 .i32)) :
    Σ' (G : Prop), G →
      (kernelRun0_A_s4 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 L6 LT0 LT1 LT2 LT3 LT4 LT5 LT6).1 := by
    sl_stretch
    sl_resume
    set_option sl_exec.stopBefore "k0_part893" in sl_exec_parts
    sl_seam

end Cert.KernelIdeal.Run
-- ==== Proof.Run6.lean ====
module

public import proofs.«01_k».proof.Proof.Run5

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- Stretch 6 of the run of the kernel's body, up to the call of `k0_part895`: the first component is the goal there, the second says
    that proving it proves the goal of stretch 5. -/
noncomputable def kernelRun0_A_s6 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (L6 : List (View.Piece (Elt F) S6x5x7x1920 .i8)) (LT0 : List (View.Piece (Elt F) S3x3x1920x640 .i8)) (LT1 : List (View.Piece (Elt F) S2x10x256x128 .i32)) (LT2 : List (View.Piece (Elt F) S2x2x224x1280 .bf16)) (LT3 : List (View.Piece (Elt F) S2x176x1280 .bf16)) (LT4 : List (View.Piece (Elt F) S144x1280 .bf16)) (LT5 : List (View.Piece (Elt F) S224x128 .i32)) (LT6 : List (View.Piece (Elt F) S15x224x128 .i32)) :
    Σ' (G : Prop), G →
      (kernelRun0_A_s5 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 L6 LT0 LT1 LT2 LT3 LT4 LT5 LT6).1 := by
    sl_stretch
    sl_resume
    set_option sl_exec.stopBefore "k0_part895" in sl_exec_parts
    sl_seam

end Cert.KernelIdeal.Run
-- ==== Proof.Run7.lean ====
module

public import proofs.«01_k».proof.Proof.Run6

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- Stretch 7 of the run of the kernel's body, up to the call of `k0_part841`: the first component is the goal there, the second says
    that proving it proves the goal of stretch 6. -/
noncomputable def kernelRun0_A_s7 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (L6 : List (View.Piece (Elt F) S6x5x7x1920 .i8)) (LT0 : List (View.Piece (Elt F) S3x3x1920x640 .i8)) (LT1 : List (View.Piece (Elt F) S2x10x256x128 .i32)) (LT2 : List (View.Piece (Elt F) S2x2x224x1280 .bf16)) (LT3 : List (View.Piece (Elt F) S2x176x1280 .bf16)) (LT4 : List (View.Piece (Elt F) S144x1280 .bf16)) (LT5 : List (View.Piece (Elt F) S224x128 .i32)) (LT6 : List (View.Piece (Elt F) S15x224x128 .i32)) :
    Σ' (G : Prop), G →
      (kernelRun0_A_s6 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 L6 LT0 LT1 LT2 LT3 LT4 LT5 LT6).1 := by
    sl_stretch
    sl_resume
    set_option sl_exec.stopBefore "k0_part841" in sl_exec_parts
    sl_seam

end Cert.KernelIdeal.Run
-- ==== Proof.RunA.lean ====
module

public import proofs.«01_k».proof.Proof.Run7

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 31772000 in set_option sl_exec.dmaWindow true in set_option sl_exec.dmaWindowSet true in
/-- What the body's stores leave in each output's staging memref, as pieces (last first), WITH the
    proof that on whole staging memrefs — the inputs' at their contents, the other outputs' at
    anything, the scratch buffers at anything, the HBM operands it copies whole at their launch contents `fh·`, its DMA cells at zero and the core's `owes`, the body runs to the continuation holding the inputs' as they were,
    a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) :
    Σ' (L6 : List (View.Piece (Elt F) S6x5x7x1920 .i8)), Σ' (LT0 : List (View.Piece (Elt F) S3x3x1920x640 .i8)), Σ' (LT1 : List (View.Piece (Elt F) S2x10x256x128 .i32)), Σ' (LT2 : List (View.Piece (Elt F) S2x2x224x1280 .bf16)), Σ' (LT3 : List (View.Piece (Elt F) S2x176x1280 .bf16)), Σ' (LT4 : List (View.Piece (Elt F) S144x1280 .bf16)), Σ' (LT5 : List (View.Piece (Elt F) S224x128 .i32)), { LT6 : List (View.Piece (Elt F) S15x224x128 .i32) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0) ∗ (∃ f, arg9.view.loc (c : Thread nD τ) ↦[arg9.view.set]{fullShare} arg9.view.writes (Elt F) f LT1) ∗ (∃ f, arg10.view.loc (c : Thread nD τ) ↦[arg10.view.set]{fullShare} arg10.view.writes (Elt F) f LT2) ∗ (∃ f, arg11.view.loc (c : Thread nD τ) ↦[arg11.view.set]{fullShare} arg11.view.writes (Elt F) f LT3) ∗ (∃ f, arg12.view.loc (c : Thread nD τ) ↦[arg12.view.set]{fullShare} arg12.view.writes (Elt F) f LT4) ∗ (∃ f, arg13.view.loc (c : Thread nD τ) ↦[arg13.view.set]{fullShare} arg13.view.writes (Elt F) f LT5) ∗ (∃ f, arg14.view.loc (c : Thread nD τ) ↦[arg14.view.set]{fullShare} arg14.view.writes (Elt F) f LT6) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt0 c hbM0_0 fh0 ∗ (∃ W', owes (c : Thread nD τ) 0 W')) -∗ K ⟨⟩))
          ⊢ wp frame (wpE (defs₀ (F := F)) Variants.none c none) Set.univ (cc0__body arg0 harg0 arg1 harg1 arg2 harg2 arg3 harg3 arg4 harg4 arg5 harg5 (Memref.whole main_v1) (Memref.isWhole_whole _) arg7 harg7 arg8 harg8 arg9 harg9 arg10 harg10 arg11 harg11 arg12 harg12 arg13 harg13 arg14 harg14 cc0_scratch7) K } := by
  refine ⟨?L6, ?LT0, ?LT1, ?LT2, ?LT3, ?LT4, ?LT5, ?LT6, (kernelRun0_A_s1 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 ?L6 ?LT0 ?LT1 ?LT2 ?LT3 ?LT4 ?LT5 ?LT6).2 ((kernelRun0_A_s2 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 ?L6 ?LT0 ?LT1 ?LT2 ?LT3 ?LT4 ?LT5 ?LT6).2 ((kernelRun0_A_s3 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 ?L6 ?LT0 ?LT1 ?LT2 ?LT3 ?LT4 ?LT5 ?LT6).2 ((kernelRun0_A_s4 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 ?L6 ?LT0 ?LT1 ?LT2 ?LT3 ?LT4 ?LT5 ?LT6).2 ((kernelRun0_A_s5 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 ?L6 ?LT0 ?LT1 ?LT2 ?LT3 ?LT4 ?LT5 ?LT6).2 ((kernelRun0_A_s6 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 ?L6 ?LT0 ?LT1 ?LT2 ?LT3 ?LT4 ?LT5 ?LT6).2 ((kernelRun0_A_s7 c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0 ?L6 ?LT0 ?LT1 ?LT2 ?LT3 ?LT4 ?LT5 ?LT6).2 ?run))))))⟩
  case run =>
    sl_resume
    sl_exec_parts
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexact Hh0
    iexists _; iexact HW

end Cert.KernelIdeal.Run
-- ==== Proof.Frame.lean ====
module

public import proofs.«01_k».proof.Proof.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 6 tile its block (450 stores of `S1x1x7x128`, checked by the kernel's evaluation: Lib/Ring.lean `Piece.tiledL`, linear in the pieces, through a loop's `@[irreducible]` trip theorem too), so they cover it. -/
theorem cover0_A_6 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) (y : S6x5x7x1920.Idx) :
    ∃ pc ∈ (kernelRun0_A c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0).1, y ∈ pc.1.set :=
  View.cover_of_tiledL (kernelRun0_A c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0).1 S1x1x7x128.size (by sl_kernel_rfl) y

/-- What the run leaves in output 6's staging buffer: its pieces read back over junk. -/
def out0_A_6 (c : Dev nD) (arg0 : Memref sig .tc .vmem S6x10x14x1280 .i8) (harg0 : arg0.IsWhole) (arg1 : Memref sig .tc .smem S1 .i32) (harg1 : arg1.IsWhole) (arg2 : Memref sig .tc .smem S1 .i32) (harg2 : arg2.IsWhole) (arg3 : Memref sig .tc .vmem S1x1920 .i32) (harg3 : arg3.IsWhole) (arg4 : Memref sig .tc .vmem S1x1920 .i32) (harg4 : arg4.IsWhole) (arg5 : Memref sig .tc .vmem S1x1920 .i32) (harg5 : arg5.IsWhole) (arg7 : Memref sig .tc .vmem S6x5x7x1920 .i8) (harg7 : arg7.IsWhole) (arg8 : Memref sig .tc .vmem S3x3x1920x640 .i8) (harg8 : arg8.IsWhole) (arg9 : Memref sig .tc .vmem S2x10x256x128 .i32) (harg9 : arg9.IsWhole) (arg10 : Memref sig .tc .vmem S2x2x224x1280 .bf16) (harg10 : arg10.IsWhole) (arg11 : Memref sig .tc .vmem S2x176x1280 .bf16) (harg11 : arg11.IsWhole) (arg12 : Memref sig .tc .vmem S144x1280 .bf16) (harg12 : arg12.IsWhole) (arg13 : Memref sig .tc .vmem S224x128 .i32) (harg13 : arg13.IsWhole) (arg14 : Memref sig .tc .vmem S15x224x128 .i32) (harg14 : arg14.IsWhole)
    (x0 : Vec F S6x10x14x1280 .i8) (x1 : Vec F S1 .i32) (x2 : Vec F S1 .i32) (x3 : Vec F S1x1920 .i32) (x4 : Vec F S1x1920 .i32) (x5 : Vec F S1x1920 .i32) (fh0 : HbBuf0 (F := F) c hbM0_0) : Vec F S6x5x7x1920 .i8 :=
  VO0_6.read (Elt F) (VO0_6.writes (Elt F) VO0_6.junk (kernelRun0_A c arg0 harg0 arg1 harg1 arg2 harg2 arg3 harg3 arg4 harg4 arg5 harg5 arg7 harg7 arg8 harg8 arg9 harg9 arg10 harg10 arg11 harg11 arg12 harg12 arg13 harg13 arg14 harg14 x0 x1 x2 x3 x4 x5 fh0).1)

/-! ## What the outputs hold after each point -/

/-- What the outputs' staging buffers hold after the body at point `t`: the run's contents at
    the point's memrefs and input blocks. -/
def outsAt0 (c : Dev nD) (t : Fin cfg0.N) : Vec F S6x5x7x1920 .i8 :=
  out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (V m c main_v1)

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    after0_0, after0_1, after0_2, after0_3, after0_4, after0_5, after0_6]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_6
  iintro ⟨⟨⟨HS0, HS1, HS2, HS3, HS4, HS5, HS6⟩, Hg, ⟨Hq0, Hq1, Hq2, Hq3, Hq4, Hq5, Hq6, Hq7⟩, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun0_A c _ _ _ _ _ _ _ _ _ _ _ _ _ _ _ _ _ _ _ _ _ _ _ _ _ _ _ _ (iblk m c 0 t) (iblk m c 1 t) (iblk m c 2 t) (iblk m c 3 t) (iblk m c 4 t) (iblk m c 5 t) (V m c main_v1)).2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨H0, H1, H2, H3, H4, H5, ⟨%e6, H6⟩, ⟨%fT0, HS0⟩, ⟨%fT1, HS1⟩, ⟨%fT2, HS2⟩, ⟨%fT3, HS3⟩, ⟨%fT4, HS4⟩, ⟨%fT5, HS5⟩, ⟨%fT6, HS6⟩, Hq0, Hq1, Hq2, Hq3, Hq4, Hq5, Hq6, Hq7, Hh0, ⟨%W', HW'⟩⟩
  isplitl [HS0 HS1 HS2 HS3 HS4 HS5 HS6 Hg Hq0 Hq1 Hq2 Hq3 Hq4 Hq5 Hq6 Hq7 Hh0]
  · isplitl [HS0 HS1 HS2 HS3 HS4 HS5 HS6]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      iexists _; unfold owns; iexists _; isplitr
      swap; · iexact HS6
      ipureintro; rfl
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Run

end
-- ==== Proof.FrameP.lean ====
module

public import proofs.«01_k».proof.Proof.Frame
public import proofs.«01_k».proof.Proof.Gen.Kernel

@[expose] public section

set_option maxRecDepth 16384

noncomputable section

namespace Cert.Conv

open Idealize.ShloMosaic Idealize.ShloMosaic.Tactic Idealize.SL.Sem

/-- The frame of `Kernel` as a statement over any floats. -/
def FrameKernel (F : FTy → Type) [FloatOps F] : Prop :=
  ∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

/-- The frame of `KernelIdeal` as a statement over any floats. -/
def FrameKernelIdeal (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The two programs are one text, so the two statements are one. -/
theorem frame_eq (F : FTy → Type) [FloatOps F] : FrameKernel F = FrameKernelIdeal F := by
  sl_kernel_rfl

/-- The frame of the printed program, from the frame of its idealization. -/
theorem frame_kernel (F : FTy → Type) [FloatOps F] : FrameKernel F :=
  (frame_eq F).mpr fun m ρ => Cert.KernelIdeal.Run.frame m ρ

end Cert.Conv
-- ==== Proof.Model.lean ====
module

public import proofs.«01_k».proof.Proof.RunA

@[expose] public section

set_option maxRecDepth 16384

noncomputable section

namespace Cert.Conv

open Idealize.ShloMosaic Idealize.ShloMosaic.TcCoe Idealize.ShloMosaic.Tactic
open Cert.KernelIdeal Cert.KernelIdeal.Gen

variable {F : FTy → Type} [FloatOps F]

/-- A unit-stride rectangle of a rank-4 buffer stays inside it when each axis does. -/
theorem inb4 {s t : Fin 4 → Nat} {a b c d : Nat} (h0 : a + s 0 ≤ t 0) (h1 : b + s 1 ≤ t 1) (h2 : c + s 2 ≤ t 2)
    (h3 : d + s 3 ≤ t 3) : ∀ i, (![a, b, c, d] : Fin 4 → Nat) i + s i ≤ t i := by
  intro i; fin_cases i <;> assumption

/-- The same at rank 3. -/
theorem inb3 {s t : Fin 3 → Nat} {a b c : Nat} (h0 : a + s 0 ≤ t 0) (h1 : b + s 1 ≤ t 1) (h2 : c + s 2 ≤ t 2) :
    ∀ i, (![a, b, c] : Fin 3 → Nat) i + s i ≤ t i := by
  intro i; fin_cases i <;> assumption

/-- The same at rank 2. -/
theorem inb2 {s t : Fin 2 → Nat} {a b : Nat} (h0 : a + s 0 ≤ t 0) (h1 : b + s 1 ≤ t 1) :
    ∀ i, (![a, b] : Fin 2 → Nat) i + s i ≤ t i := by
  intro i; fin_cases i <;> assumption

/-! ### The operand words -/

/-- The lane number of every element. -/
def lane : IVec S7x128 32 := iota .tc S7x128 32 [1] iota_S7x128_d1_w32

/-- Twice the lane number modulo 128, as the printed remainder chain computes it. -/
def twiceLane : IVec S7x128 32 :=
  let m : BitVec 32 := Scalar.select (Scalar.cmpi .eq 128#32 0#32) 1#32 128#32
  let v15 : IVec S7x128 32 := remsi (muli lane (broadcast S7x128 2#32)) (broadcast S7x128 m)
  let v17 : IVec S7x128 1 := cmpi .ne v15 (broadcast S7x128 0#32)
  let v19 : IVec S7x128 1 := cmpi .slt v15 (broadcast S7x128 0#32)
  let v22 : IVec S7x128 1 := broadcastTo S7x128 (broadcast S7x128 (Scalar.cmpi .slt m 0#32)) broadcasts_S7x128_S7x128
  select (andi (xori v19 v22) v17) (addi v15 (broadcast S7x128 m)) v15

/-- The source lane of the gather: even lanes (`par = 0`) or odd lanes (`par = 1`). -/
def srcLane (par : Fin 2) : IVec S7x128 32 :=
  match par with
  | 0 => twiceLane
  | 1 => addi twiceLane (broadcast S7x128 1#32)

/-- The gather's index operand: negative indices wrapped, through a unit axis and back. -/
def gatherIdx (v : IVec S7x128 32) : IVec S7x128 32 :=
  shapeCast S7x128 (shapeCast S7x128x1 (select (cmpi .slt v (broadcast S7x128 0#32)) (addi v (broadcast S7x128 128#32)) v)
    shapeCasts_S7x128_S7x128x1) shapeCasts_S7x128x1_S7x128

/-- The lanes whose source lies in the first of the two registers. -/
def lowHalf : IVec S7x128 1 := cmpi .slt lane (broadcast S7x128 64#32)

/-- One image column as words: rows `2 ho` and `2 ho + 1` of `x - zi` as two 16-bit integers. -/
def pairWords (x : IVec S1x1x14x1280 8) (zi : BitVec 32) : IVec S7x1280 32 :=
  bitcast S7x1280 32 (fptosi 16 (subf (sitofp .bf16 (shapeCast S14x1280 x shapeCasts_S1x1x14x1280_S14x1280) : FVec F S14x1280 .bf16)
    (broadcast S14x1280 (Scalar.sitofp .bf16 zi)))) bitcasts_S14x1280_w16_S7x1280_w32

theorem slices_words (n : Nat) (h : n + 128 ≤ 1280) : S7x1280.Slices ![0, n] S7x128 := by
  refine ⟨rfl, fun a => ?_⟩
  fin_cases a
  · exact Nat.le_refl 7
  · exact h

/-- The words of the even (or odd) channels of K tile `T`, one per lane. -/
def wordPay (x : IVec S1x1x14x1280 8) (zi : BitVec 32) (T : Fin 5) (par : Fin 2) : IVec S1x1x7x128 32 :=
  shapeCast S1x1x7x128 (select lowHalf
    (dynamicGather 1 (extractStridedSlice S7x128 ![0, 256 * T.val] (pairWords (F := F) x zi) (slices_words _ (by omega)))
      (gatherIdx (srcLane par)))
    (dynamicGather 1 (extractStridedSlice S7x128 ![0, 256 * T.val + 128] (pairWords (F := F) x zi) (slices_words _ (by omega)))
      (gatherIdx (srcLane par)))) shapeCasts_S7x128_S1x1x7x128

/-- The store of those words: group `wo * B + b` of eight rows in plane `2 T + par`. -/
def wordPiece (x : IVec S1x1x14x1280 8) (zi : BitVec 32) (wp : Fin 2) (wo : Fin 5) (b : Fin 6) (T : Fin 5) (par : Fin 2) :
    View.Piece (Elt F) S2x10x256x128 .i32 :=
  ⟨Rect.unit (s := S2x10x256x128) ![wp.val, 2 * T.val + par.val, (wo.val * 6 + b.val) * 8, 0] S1x1x7x128.size
    (inb4 (show wp.val + 1 ≤ 2 by omega) (show 2 * T.val + par.val + 1 ≤ 10 by omega)
      (show (wo.val * 6 + b.val) * 8 + 7 ≤ 256 by omega) (show 0 + 128 ≤ 128 by omega)), wordPay (F := F) x zi T par⟩

/-- The store of the zero rows behind the last group. -/
def zeroPiece (wp : Fin 2) (lt : Fin 10) : View.Piece (Elt F) S2x10x256x128 .i32 :=
  ⟨Rect.unit (s := S2x10x256x128) ![wp.val, lt.val, 240, 0] S1x1x16x128.size
    (inb4 (show wp.val + 1 ≤ 2 by omega) (show lt.val + 1 ≤ 10 by omega)
      (show 240 + 16 ≤ 256 by omega) (show 0 + 128 ≤ 128 by omega)),
    (shapeCast S1x1x16x128 (broadcast S16x128 0#32 : IVec S16x128 32) shapeCasts_S16x128_S1x1x16x128 : IVec S1x1x16x128 32)⟩

/-- All the indices below `n`, by recursion. -/
def fins : (n : Nat) → List (Fin n)
  | 0 => []
  | n + 1 => 0 :: (fins n).map Fin.succ

/-- Every store into the word buffer, the last first; `X b w` is the image column loaded for batch `b` at position `w`. -/
def wordsModel (X : Fin 6 → Fin 10 → IVec S1x1x14x1280 8) (zi : BitVec 32) : List (View.Piece (Elt F) S2x10x256x128 .i32) :=
  ((fins 2).flatMap fun wp => (fins 10).map (zeroPiece wp) ++
    ((fins 5).flatMap fun wo => (fins 6).flatMap fun b => (fins 5).flatMap fun T => (fins 2).map fun par =>
      wordPiece (X b ⟨2 * wo.val + wp.val, by omega⟩) zi wp wo b T par)).reverse

/-! ### The left operands -/

/-- The even or odd rows of a block of words as numbers, scaled by 512. -/
def halves {s : Shape} (w : IVec s 32) (par : Fin 2) : FVec F s .f32 :=
  match par with
  | 0 => mulf (sitofp .f32 (shrsi (shli w (broadcast s 16#32)) (broadcast s 16#32))) (broadcast s (Scalar.ofBits .f32 0x44000000#32))
  | 1 => mulf (sitofp .f32 (shrsi w (broadcast s 16#32))) (broadcast s (Scalar.ofBits .f32 0x44000000#32))

/-- The rows `ho` of `n` groups of the word buffer from group `g0`. -/
def rowsRect (n g0 : Nat) (wp : Fin 2) (lt : Fin 10) (ho : Fin 7) (hn : 0 < n) (h : g0 + n ≤ 32) : LoadRect S2x10x256x128 :=
  ⟨![wp.val, lt.val, g0 * 8 + ho.val, 0], ![1, 1, n, 128], ![1, 1, 8, 1], by
    intro a; right; fin_cases a
    · show wp.val + 1 * (1 - 1) < 2; omega
    · show lt.val + 1 * (1 - 1) < 10; omega
    · show g0 * 8 + ho.val + 8 * (n - 1) < 256; omega
    · show 0 + 1 * (128 - 1) < 128; omega⟩

/-- One store into `lm`. -/
def lmPiece (W : Vec F S1x1x32x128 .i32) (lt : Fin 10) (wp : Fin 2) (ho : Fin 7) (par : Fin 2) :
    View.Piece (Elt F) S2x2x224x1280 .bf16 :=
  ⟨Rect.unit (s := S2x2x224x1280) ![par.val, wp.val, ho.val * 32, lt.val * 128] S1x1x32x128.size
    (inb4 (show par.val + 1 ≤ 2 by omega) (show wp.val + 1 ≤ 2 by omega)
      (show ho.val * 32 + 32 ≤ 224 by omega) (show lt.val * 128 + 128 ≤ 1280 by omega)),
    (shapeCast S1x1x32x128 (truncf .bf16 (halves (F := F) (shapeCast S32x128 W shapeCasts_S1x1x32x128_S32x128 : IVec S32x128 32) par)
      bitsLt_bf16_f32) shapeCasts_S32x128_S1x1x32x128 : FVec F S1x1x32x128 .bf16)⟩

/-- Every store into `lm`, the last first; `W wp lt ho` are the words loaded. -/
def lmModel (W : Fin 2 → Fin 10 → Fin 7 → Vec F S1x1x32x128 .i32) : List (View.Piece (Elt F) S2x2x224x1280 .bf16) :=
  ((fins 10).flatMap fun lt => (fins 2).flatMap fun wp => (fins 7).flatMap fun ho => (fins 2).map fun par =>
    lmPiece (W wp lt ho) lt wp ho par).reverse

/-- The rows of the left operand of the third column of taps at output row `ho`. -/
def ldRow (W : Vec F S1x1x24x128 .i32) (par : Fin 2) : FVec F S24x128 .f32 :=
  halves (F := F) (shapeCast S24x128 W shapeCasts_S1x1x24x128_S24x128 : IVec S24x128 32) par

/-- One store into `ld`: the seven output rows, then eight zero rows. -/
def ldPiece (W : Fin 7 → Vec F S1x1x24x128 .i32) (lt : Fin 10) (par : Fin 2) : View.Piece (Elt F) S2x176x1280 .bf16 :=
  ⟨Rect.unit (s := S2x176x1280) ![par.val, 0, lt.val * 128] S1x176x128.size
    (inb3 (show par.val + 1 ≤ 2 by omega) (show 0 + 176 ≤ 176 by omega) (show lt.val * 128 + 128 ≤ 1280 by omega)),
    (shapeCast S1x176x128 (truncf .bf16 (concatenate S176x128 0
      (((fins 7).map fun ho => (⟨S24x128, ldRow (W ho) par⟩ : (s : Shape) × (s.Idx → F .f32))) ++
        [(⟨S8x128, broadcast S8x128 (Scalar.ofBits .f32 0x00000000#32)⟩ : (s : Shape) × (s.Idx → F .f32))])
      concatenates_S24x128_S24x128_S24x128_S24x128_S24x128_S24x128_S24x128_S8x128_S176x128_d0 : FVec F S176x128 .f32)
      bitsLt_bf16_f32) shapeCasts_S176x128_S1x176x128 : FVec F S1x176x128 .bf16)⟩

/-- Every store into `ld`, the last first. -/
def ldModel (W : Fin 10 → Fin 7 → Vec F S1x1x24x128 .i32) : List (View.Piece (Elt F) S2x176x1280 .bf16) :=
  ((fins 10).flatMap fun lt => (fins 2).map fun par => ldPiece (W lt) lt par).reverse

/-- One store into `ld2`: output rows 1 to 6. -/
def ld2Piece (W : Fin 7 → Vec F S1x1x24x128 .i32) (lt : Fin 10) : View.Piece (Elt F) S144x1280 .bf16 :=
  ⟨Rect.unit (s := S144x1280) ![0, lt.val * 128] S144x128.size
    (inb2 (show 0 + 144 ≤ 144 by omega) (show lt.val * 128 + 128 ≤ 1280 by omega)),
    (shapeCast S144x128 (truncf .bf16 (concatenate S144x128 0
      ((fins 6).map fun ho => (⟨S24x128, ldRow (W ho.succ) 0⟩ : (s : Shape) × (s.Idx → F .f32)))
      concatenates_S24x128_S24x128_S24x128_S24x128_S24x128_S24x128_S144x128_d0 : FVec F S144x128 .f32)
      bitsLt_bf16_f32) shapeCasts_S144x128_S144x128 : FVec F S144x128 .bf16)⟩

/-- Every store into `ld2`, the last first. -/
def ld2Model (W : Fin 10 → Fin 7 → Vec F S1x1x24x128 .i32) : List (View.Piece (Elt F) S144x1280 .bf16) :=
  ((fins 10).map fun lt => ld2Piece (W lt) lt).reverse

end Cert.Conv
-- ==== Proof.Model2.lean ====
module

public import proofs.«01_k».proof.Proof.Model

@[expose] public section

set_option maxRecDepth 16384

noncomputable section

namespace Cert.Conv

open Idealize.ShloMosaic Idealize.ShloMosaic.TcCoe Idealize.ShloMosaic.Tactic
open Cert.KernelIdeal Cert.KernelIdeal.Gen

variable {F : FTy → Type} [FloatOps F]

/-! ### The right operands -/

/-- A block of packed bytes as words with each nibble's sign bit flipped. -/
def flipped {s t : Shape} (w : IVec s 8) (h : s.Bitcasts 8 t 32) : IVec t 32 :=
  xori (bitcast t 32 w h) (broadcast t 2290649224#32)

/-- The low nibbles of a block of packed bytes, plus eight, read as floats. -/
def loNib {s t : Shape} (w : IVec s 8) (h : s.Bitcasts 8 t 32) (h' : t.Bitcasts 32 s 8) : FVec F s .fp8e4m3 :=
  bitcastToFloat .fp8e4m3 (bitcast s 8 (andi (flipped w h) (broadcast t 252645135#32)) h')

/-- The high nibbles. -/
def hiNib {s t : Shape} (w : IVec s 8) (h : s.Bitcasts 8 t 32) (h' : t.Bitcasts 32 s 8) : FVec F s .fp8e4m3 :=
  bitcastToFloat .fp8e4m3 (bitcast s 8 (andi (shrsi (flipped w h) (broadcast t 4#32)) (broadcast t 252645135#32)) h')

/-- The right operand of a tap for a whole N tile: low and high nibbles of each K tile side by side. -/
def rhsFull (w : Fin 5 → Vec F S1x1x256x128 .i8) : FVec F S256x1280 .fp8e4m3 :=
  concatenate S256x1280 1 (((fins 5).flatMap fun T =>
    [⟨S256x128, loNib (F := F) (shapeCast S256x128 (w T) shapeCasts_S1x1x256x128_S256x128 : IVec S256x128 8)
        bitcasts_S256x128_w8_S64x128_w32 bitcasts_S64x128_w32_S256x128_w8⟩,
      ⟨S256x128, hiNib (F := F) (shapeCast S256x128 (w T) shapeCasts_S1x1x256x128_S256x128 : IVec S256x128 8)
        bitcasts_S256x128_w8_S64x128_w32 bitcasts_S64x128_w32_S256x128_w8⟩]) : List ((s : Shape) × (s.Idx → F .fp8e4m3)))
    concatenates_S256x128_S256x128_S256x128_S256x128_S256x128_S256x128_S256x128_S256x128_S256x128_S256x128_S256x1280_d1

/-- The right operand of a tap for the last N tile: 128 weight rows, then 128 rows of the code one. -/
def rhsLast (w : Fin 5 → Vec F S1x1x128x128 .i8) : FVec F S256x1280 .fp8e4m3 :=
  concatenate S256x1280 0 ([⟨S128x1280, concatenate S128x1280 1 (((fins 5).flatMap fun T =>
      [⟨S128x128, loNib (F := F) (shapeCast S128x128 (w T) shapeCasts_S1x1x128x128_S128x128 : IVec S128x128 8)
          bitcasts_S128x128_w8_S32x128_w32 bitcasts_S32x128_w32_S128x128_w8⟩,
        ⟨S128x128, hiNib (F := F) (shapeCast S128x128 (w T) shapeCasts_S1x1x128x128_S128x128 : IVec S128x128 8)
          bitcasts_S128x128_w8_S32x128_w32 bitcasts_S32x128_w32_S128x128_w8⟩]) : List ((s : Shape) × (s.Idx → F .fp8e4m3)))
      concatenates_S128x128_S128x128_S128x128_S128x128_S128x128_S128x128_S128x128_S128x128_S128x128_S128x128_S128x1280_d1⟩,
    ⟨S128x1280, bitcastToFloat .fp8e4m3 (bitcast S128x1280 8 (broadcast S32x1280 16843009#32) bitcasts_S32x1280_w32_S128x1280_w8)⟩] :
      List ((s : Shape) × (s.Idx → F .fp8e4m3))) concatenates_S128x1280_S128x1280_S256x1280_d0

/-! ### The dots and their sums -/

/-- The left operands of the dots: `lm` by plane and column, its rows from the second on, `ld` and `ld2`. -/
structure Lhs (F : FTy → Type) where
  m : Fin 2 → Fin 2 → FVec F S224x1280 .bf16
  c : Fin 2 → FVec F S192x1280 .bf16
  d : Fin 2 → FVec F S176x1280 .bf16
  e : FVec F S144x1280 .bf16

def dotM (l : FVec F S224x1280 .bf16) (r : FVec F S256x1280 .fp8e4m3) : FVec F S224x256 .f32 :=
  matmul dot_S224x1280_S256x1280_S224x256_1_1_0_0_n_n none l r (constant S224x256 .f32 0x00000000#32)

def dotC (l : FVec F S192x1280 .bf16) (r : FVec F S256x1280 .fp8e4m3) : FVec F S192x256 .f32 :=
  matmul dot_S192x1280_S256x1280_S192x256_1_1_0_0_n_n none l r (constant S192x256 .f32 0x00000000#32)

def dotD (l : FVec F S176x1280 .bf16) (r : FVec F S256x1280 .fp8e4m3) : FVec F S176x256 .f32 :=
  matmul dot_S176x1280_S256x1280_S176x256_1_1_0_0_n_n none l r (constant S176x256 .f32 0x00000000#32)

def dotE (l : FVec F S144x1280 .bf16) (r : FVec F S256x1280 .fp8e4m3) : FVec F S144x256 .f32 :=
  matmul dot_S144x1280_S256x1280_S144x256_1_1_0_0_n_n none l r (constant S144x256 .f32 0x00000000#32)

/-- The taps of the first two columns in the first two rows, one kernel row each. -/
def accM (L : Lhs F) (r : Fin 3 → Fin 3 → FVec F S256x1280 .fp8e4m3) (kh : Fin 2) : IVec S224x256 32 :=
  fptosi 32 (addf (dotM (L.m kh 0) (r kh.castSucc 0)) (dotM (L.m kh 1) (r kh.castSucc 1)))

/-- The taps of the first two columns in the third row. -/
def accC (L : Lhs F) (r : Fin 3 → Fin 3 → FVec F S256x1280 .fp8e4m3) : IVec S192x256 32 :=
  fptosi 32 (addf (dotC (L.c 0) (r 2 0)) (dotC (L.c 1) (r 2 1)))

/-- The taps of the third column in the first two rows. -/
def accD (L : Lhs F) (r : Fin 3 → Fin 3 → FVec F S256x1280 .fp8e4m3) : IVec S176x256 32 :=
  fptosi 32 (addf (dotD (L.d 0) (r 0 2)) (dotD (L.d 1) (r 1 2)))

/-- The tap of the third column and row. -/
def accE (L : Lhs F) (r : Fin 3 → Fin 3 → FVec F S256x1280 .fp8e4m3) : IVec S144x256 32 :=
  fptosi 32 (dotE L.e (r 2 2))

theorem slicesRows {s t : Nat} (m : Nat) (h : m + t ≤ s) :
    Shape.Slices ⟨2, ![s, 256]⟩ ![m, 0] ⟨2, ![t, 256]⟩ := by
  refine ⟨rfl, fun a => ?_⟩
  fin_cases a
  · exact h
  · exact Nat.le_refl 256

/-- The sum over the nine taps for the groups of output row `ho`. -/
def tapSum (L : Lhs F) (r : Fin 3 → Fin 3 → FVec F S256x1280 .fp8e4m3) (ho : Fin 7) : IVec S32x256 32 :=
  if h : ho.val < 6 then
    addi (addi (addi (extractStridedSlice S32x256 ![ho.val * 32, 0] (accM L r 0) (slicesRows (s := 224) (t := 32) _ (by omega)))
        (extractStridedSlice S32x256 ![ho.val * 32, 0] (accM L r 1) (slicesRows (s := 224) (t := 32) _ (by omega))))
        (extractStridedSlice S32x256 ![ho.val * 32, 0] (accC L r) (slicesRows (s := 192) (t := 32) _ (by omega))))
      (concatenate S32x256 0 ([⟨S24x256, addi
          (extractStridedSlice S24x256 ![ho.val * 24, 0] (accD L r) (slicesRows (s := 176) (t := 24) _ (by omega)))
          (extractStridedSlice S24x256 ![ho.val * 24, 0] (accE L r) (slicesRows (s := 144) (t := 24) _ (by omega)))⟩,
        ⟨S8x256, broadcast S8x256 0#32⟩] : List ((s : Shape) × (s.Idx → BitVec 32)))
        concatenates_S24x256_S8x256_S32x256_d0)
  else
    addi (addi (extractStridedSlice S32x256 ![ho.val * 32, 0] (accM L r 0) (slicesRows (s := 224) (t := 32) _ (by omega)))
        (extractStridedSlice S32x256 ![ho.val * 32, 0] (accM L r 1) (slicesRows (s := 224) (t := 32) _ (by omega))))
      (concatenate S32x256 0 ([⟨S24x256,
          extractStridedSlice S24x256 ![ho.val * 24, 0] (accD L r) (slicesRows (s := 176) (t := 24) _ (by omega))⟩,
        ⟨S8x256, broadcast S8x256 0#32⟩] : List ((s : Shape) × (s.Idx → BitVec 32)))
        concatenates_S24x256_S8x256_S32x256_d0)

theorem slicesCols (n : Nat) (h : n + 128 ≤ 256) : S32x256.Slices ![0, n] S32x128 := by
  refine ⟨rfl, fun a => ?_⟩
  fin_cases a
  · exact Nat.le_refl 32
  · exact h

/-- Columns `128 c` to `128 c + 127` of the sum. -/
def tapCols (L : Lhs F) (r : Fin 3 → Fin 3 → FVec F S256x1280 .fp8e4m3) (ho : Fin 7) (c : Fin 2) : IVec S32x128 32 :=
  extractStridedSlice S32x128 ![0, c.val * 128] (tapSum L r ho) (slicesCols _ (by omega))

/-- The store of the row sums of output row `ho`: eight times the columns of the code one. -/
def rsumPiece (L : Lhs F) (r : Fin 3 → Fin 3 → FVec F S256x1280 .fp8e4m3) (ho : Fin 7) : View.Piece (Elt F) S224x128 .i32 :=
  ⟨Rect.unit (s := S224x128) ![ho.val * 32, 0] S32x128.size
    (inb2 (show ho.val * 32 + 32 ≤ 224 by omega) (show 0 + 128 ≤ 128 by omega)),
    (shapeCast S32x128 (muli (tapCols L r ho 1) (broadcast S32x128 8#32)) shapeCasts_S32x128_S32x128 : IVec S32x128 32)⟩

/-- The first `n` stores of row sums, the last first. -/
def rsumModel (L : Lhs F) (r : Fin 3 → Fin 3 → FVec F S256x1280 .fp8e4m3) : (n : Nat) → n ≤ 7 → List (View.Piece (Elt F) S224x128 .i32)
  | 0, _ => []
  | n + 1, h => rsumPiece L r ⟨n, h⟩ :: rsumModel L r n (Nat.le_of_succ_le h)

/-! ### The requantisation -/

/-- The high word of the doubled product of `acc` with the multiplier, from 16-bit halves. -/
def highMul (acc : IVec S32x128 32) (mult : IVec S1x128 32) : IVec S32x128 32 :=
  let mh : IVec S1x128 32 := shrsi mult (broadcast S1x128 16#32)
  let ml : IVec S1x128 32 := andi mult (broadcast S1x128 65535#32)
  let ah : IVec S32x128 32 := shrsi acc (broadcast S32x128 16#32)
  let al : IVec S32x128 32 := andi acc (broadcast S32x128 65535#32)
  let pll : IVec S32x128 32 := shrui (muli al (broadcastTo S32x128 ml broadcasts_S1x128_S32x128)) (broadcast S32x128 16#32)
  let t : IVec S32x128 32 := addi (muli al (broadcastTo S32x128 mh broadcasts_S1x128_S32x128)) pll
  let phl : IVec S32x128 32 := muli ah (broadcastTo S32x128 ml broadcasts_S1x128_S32x128)
  let c : IVec S32x128 32 := addi (addi (andi t (broadcast S32x128 65535#32)) (andi phl (broadcast S32x128 65535#32)))
    (broadcast S32x128 16384#32)
  let h : IVec S32x128 32 := addi (addi (muli ah (broadcastTo S32x128 mh broadcasts_S1x128_S32x128))
    (shrsi t (broadcast S32x128 16#32))) (shrsi phl (broadcast S32x128 16#32))
  addi (muli (broadcast S32x128 2#32) h) (shrsi c (broadcast S32x128 15#32))

/-- The rounding shift of `q` by `-shift`. -/
def roundShift (q : IVec S32x128 32) (shift : IVec S1x128 32) : IVec S32x128 32 :=
  let em1 : IVec S1x128 32 := subi (broadcast S1x128 4294967295#32) shift
  shrsi (addi (shrsi (addi q (shrsi q (broadcast S32x128 31#32))) (broadcastTo S32x128 em1 broadcasts_S1x128_S32x128))
    (broadcast S32x128 1#32)) (broadcast S32x128 1#32)

/-- The output codes of one block: sums less row sums plus bias, scaled, rounded, offset and clipped. -/
def requant (s rs : IVec S32x128 32) (bias mult shift : IVec S1x128 32) (zo : BitVec 32) : IVec S32x128 32 :=
  let acc : IVec S32x128 32 := addi (subi s rs)
    (broadcastTo S32x128 (shapeCast S1x128 bias shapeCasts_S1x128_S1x128 : IVec S1x128 32) broadcasts_S1x128_S32x128)
  let q := highMul acc (shapeCast S1x128 mult shapeCasts_S1x128_S1x128)
  let y := addi (roundShift q (shapeCast S1x128 shift shapeCasts_S1x128_S1x128)) (broadcast S32x128 zo)
  minsi (broadcast S32x128 127#32) (maxsi (broadcast S32x128 4294967168#32) y)

/-- The store of one block of output codes, 128 channels from `128 n`. -/
def outCodes (L : Lhs F) (r : Fin 3 → Fin 3 → FVec F S256x1280 .fp8e4m3) (RS : Fin 7 → Vec F S32x128 .i32)
    (bias mult shift : Fin 15 → Vec F S1x128 .i32) (zo : BitVec 32) (n : Fin 15) (c : Fin 2) (ho : Fin 7) :
    View.Piece (Elt F) S15x224x128 .i32 :=
  ⟨Rect.unit (s := S15x224x128) ![n.val, ho.val * 32, 0] S1x32x128.size
    (inb3 (show n.val + 1 ≤ 15 by omega) (show ho.val * 32 + 32 ≤ 224 by omega) (show 0 + 128 ≤ 128 by omega)),
    (shapeCast S1x32x128 (requant (tapCols L r ho c) (RS ho) (bias n) (mult n) (shift n) zo)
      shapeCasts_S32x128_S1x32x128 : IVec S1x32x128 32)⟩

/-- Every store of output codes, the last first: the last N tile comes first, then the others downwards. -/
def codesModel (L : Lhs F) (rl : Fin 3 → Fin 3 → FVec F S256x1280 .fp8e4m3) (rf : Fin 7 → Fin 3 → Fin 3 → FVec F S256x1280 .fp8e4m3)
    (RSl RSf : Fin 7 → Vec F S32x128 .i32) (bias mult shift : Fin 15 → Vec F S1x128 .i32) (zo : BitVec 32) :
    List (View.Piece (Elt F) S15x224x128 .i32) :=
  ((fins 7).map (fun ho => outCodes L rl RSl bias mult shift zo (Fin.last _) 0 ho) ++
    (fins 7).reverse.flatMap fun nt => (fins 7).flatMap fun ho => (fins 2).map fun c =>
      outCodes L (rf nt) RSf bias mult shift zo ⟨nt.val * 2 + c.val, by omega⟩ c ho).reverse

/-! ### The output -/

/-- The rows of position `wo` and batch `b` in the codes of 128 channels. -/
def codeRect (wo : Fin 5) (b : Fin 6) (n : Fin 15) : LoadRect S15x224x128 :=
  ⟨![n.val, wo.val * 6 + b.val, 0], ![1, 7, 128], ![1, 32, 1], by
    intro a; right; fin_cases a
    · show n.val + 1 * (1 - 1) < 15; omega
    · show wo.val * 6 + b.val + 32 * (7 - 1) < 224; omega
    · show 0 + 1 * (128 - 1) < 128; omega⟩

/-- The store of 128 channels of the results at position `wo` of batch `b`. -/
def outPiece (Y : Fin 5 → Fin 6 → Fin 15 → Vec F S1x7x128 .i32) (n : Fin 15) (wo : Fin 5) (b : Fin 6) :
    View.Piece (Elt F) S6x5x7x1920 .i8 :=
  ⟨Rect.unit (s := S6x5x7x1920) ![b.val, wo.val, 0, n.val * 128] S1x1x7x128.size
    (inb4 (show b.val + 1 ≤ 6 by omega) (show wo.val + 1 ≤ 5 by omega) (show 0 + 7 ≤ 7 by omega)
      (show n.val * 128 + 128 ≤ 1920 by omega)),
    (shapeCast S1x1x7x128 (trunci 8 (shapeCast S7x128 (Y wo b n) shapeCasts_S1x7x128_S7x128 : IVec S7x128 32) natLt_8_32)
      shapeCasts_S7x128_S1x1x7x128 : IVec S1x1x7x128 8)⟩

/-- Every store of results, the last first. -/
def outModel (Y : Fin 5 → Fin 6 → Fin 15 → Vec F S1x7x128 .i32) : List (View.Piece (Elt F) S6x5x7x1920 .i8) :=
  (((fins 5).flatMap fun wo => (fins 6).map fun b => outPiece Y (Fin.last _) wo b) ++
    (fins 7).reverse.flatMap fun nt => (fins 5).flatMap fun wo => (fins 6).flatMap fun b => (fins 2).map fun c =>
      outPiece Y ⟨nt.val * 2 + c.val, by omega⟩ wo b).reverse

end Cert.Conv
-- ==== Proof.T1.lean ====
module

public import proofs.«01_k».proof.Proof.Model2

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

variable {F : FTy → Type} [FloatOps F]

/-- An image column as the body loads it. -/
def xCol (arg0 : Memref sig .tc .vmem S6x10x14x1280 .i8) (harg0 : arg0.IsWhole) (x0 : Vec F S6x10x14x1280 .i8)
    (b : Fin 6) (w : Fin 10) : Vec F S1x1x14x1280 .i8 :=
  View.readAt (Elt F) arg0.view (Rect.unit (s := S6x10x14x1280) ![b.val, w.val, 0, 0] S1x1x14x1280.size
    (inb4 (show b.val + 1 ≤ 6 by omega) (show w.val + 1 ≤ 10 by omega) (show 0 + 14 ≤ 14 by omega)
      (show 0 + 1280 ≤ 1280 by omega))).toLoadRect (harg0.unread x0)

/-- A scalar operand as the body loads it. -/
def scalarOf (arg1 : Memref sig .tc .smem S1 .i32) (harg1 : arg1.IsWhole) (x1 : Vec F S1 .i32) : BitVec 32 :=
  View.readAt (Elt F) arg1.view (Rect.unit (s := S1) ![0] S1.size inb_S1_S1_0).toLoadRect (harg1.unread x1) (Shape.Idx.first (by decide))

/-- The run's word buffer is the model's. -/
theorem words_eq (c : Dev nD) (arg0 : Memref sig .tc .vmem S6x10x14x1280 .i8) (harg0 : arg0.IsWhole)
    (arg1 : Memref sig .tc .smem S1 .i32) (harg1 : arg1.IsWhole) (x0 : Vec F S6x10x14x1280 .i8) (x1 : Vec F S1 .i32) :
    kernelRun0_A_s3.sl.HS1_620 c arg0 harg0 arg1 harg1 x0 x1 = wordsModel (xCol arg0 harg0 x0) (scalarOf arg1 harg1 x1) := by
  sl_kernel_rfl

/-- The word rows a store of a left operand loads. -/
def wordRows (arg9 : Memref sig .tc .vmem S2x10x256x128 .i32) (ws : List (View.Piece (Elt F) S2x10x256x128 .i32))
    (n g0 : Nat) (wp : Fin 2) (lt : Fin 10) (ho : Fin 7) (hn : 0 < n) (h : g0 + n ≤ 32) :=
  arg9.view.readCov ws (rowsRect n g0 wp lt ho hn h)

theorem lm_eq (c : Dev nD) (arg0 : Memref sig .tc .vmem S6x10x14x1280 .i8) (harg0 : arg0.IsWhole)
    (arg1 : Memref sig .tc .smem S1 .i32) (harg1 : arg1.IsWhole) (arg9 : Memref sig .tc .vmem S2x10x256x128 .i32)
    (x0 : Vec F S6x10x14x1280 .i8) (x1 : Vec F S1 .i32) :
    kernelRun0_A_s4.sl.HS2_280 c arg0 harg0 arg1 harg1 arg9 x0 x1 = lmModel fun wp lt ho =>
      wordRows arg9 (kernelRun0_A_s3.sl.HS1_620 c arg0 harg0 arg1 harg1 x0 x1) 32 0 wp lt ho (by decide) (by decide) := by
  sl_kernel_rfl

theorem ld_eq (c : Dev nD) (arg0 : Memref sig .tc .vmem S6x10x14x1280 .i8) (harg0 : arg0.IsWhole)
    (arg1 : Memref sig .tc .smem S1 .i32) (harg1 : arg1.IsWhole) (arg9 : Memref sig .tc .vmem S2x10x256x128 .i32)
    (x0 : Vec F S6x10x14x1280 .i8) (x1 : Vec F S1 .i32) :
    kernelRun0_A_s4.sl.HS3_20 c arg0 harg0 arg1 harg1 arg9 x0 x1 = ldModel fun lt ho =>
      wordRows arg9 (kernelRun0_A_s3.sl.HS1_620 c arg0 harg0 arg1 harg1 x0 x1) 24 6 0 lt ho (by decide) (by decide) := by
  sl_kernel_rfl

theorem ld2_eq (c : Dev nD) (arg0 : Memref sig .tc .vmem S6x10x14x1280 .i8) (harg0 : arg0.IsWhole)
    (arg1 : Memref sig .tc .smem S1 .i32) (harg1 : arg1.IsWhole) (arg9 : Memref sig .tc .vmem S2x10x256x128 .i32)
    (x0 : Vec F S6x10x14x1280 .i8) (x1 : Vec F S1 .i32) :
    kernelRun0_A_s4.sl.HS4_10 c arg0 harg0 arg1 harg1 arg9 x0 x1 = ld2Model fun lt ho =>
      wordRows arg9 (kernelRun0_A_s3.sl.HS1_620 c arg0 harg0 arg1 harg1 x0 x1) 24 6 0 lt ho (by decide) (by decide) := by
  sl_kernel_rfl

end Cert.Conv
-- ==== Proof.T2.lean ====
module

public import proofs.«01_k».proof.Proof.T1

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

variable {F : FTy → Type} [FloatOps F]

/-- The blocks of `lm`, `ld` and `ld2` the dots load. -/
def lhsOf (arg10 : Memref sig .tc .vmem S2x2x224x1280 .bf16) (arg11 : Memref sig .tc .vmem S2x176x1280 .bf16)
    (arg12 : Memref sig .tc .vmem S144x1280 .bf16) (lm : List (View.Piece (Elt F) S2x2x224x1280 .bf16))
    (ld : List (View.Piece (Elt F) S2x176x1280 .bf16)) (ld2 : List (View.Piece (Elt F) S144x1280 .bf16)) : Lhs F where
  m := fun p wp => shapeCast S224x1280 (arg10.view.readCov lm (Rect.unit (s := S2x2x224x1280) ![p.val, wp.val, 0, 0] S1x1x224x1280.size
    (inb4 (show p.val + 1 ≤ 2 by omega) (show wp.val + 1 ≤ 2 by omega) (show 0 + 224 ≤ 224 by omega)
      (show 0 + 1280 ≤ 1280 by omega))).toLoadRect) shapeCasts_S1x1x224x1280_S224x1280
  c := fun wp => shapeCast S192x1280 (arg10.view.readCov lm (Rect.unit (s := S2x2x224x1280) ![0, wp.val, 32, 0] S1x1x192x1280.size
    (inb4 (show 0 + 1 ≤ 2 by omega) (show wp.val + 1 ≤ 2 by omega) (show 32 + 192 ≤ 224 by omega)
      (show 0 + 1280 ≤ 1280 by omega))).toLoadRect) shapeCasts_S1x1x192x1280_S192x1280
  d := fun p => shapeCast S176x1280 (arg11.view.readCov ld (Rect.unit (s := S2x176x1280) ![p.val, 0, 0] S1x176x1280.size
    (inb3 (show p.val + 1 ≤ 2 by omega) (show 0 + 176 ≤ 176 by omega) (show 0 + 1280 ≤ 1280 by omega))).toLoadRect)
      shapeCasts_S1x176x1280_S176x1280
  e := arg12.view.readCov ld2 (Rect.unit (s := S144x1280) ![0, 0] S144x1280.size inb_S144x1280_S144x1280_0_0).toLoadRect

/-- One block of the weights, as its copy reads it. -/
def wBlk (c : Dev nD) (fh0 : HbBuf0 (F := F) c hbM0_0) (r : Rect S3x3x1920x640) (h : ∀ a, r.stride a = 1) : r.shape.Idx → Elt F .i8 :=
  ReadAs.same.apply (View.read (Elt F) ((Memref.whole main_v1).slice r h).view fh0)

/-- The rectangle of `n` rows of weights from row `n0`. -/
def wRect (n0 n : Nat) (h : n0 + n ≤ 1920) : Rect S3x3x1920x640 :=
  Rect.unit (s := S3x3x1920x640) ![0, 0, n0, 0] ![3, 3, n, 640]
    (inb4 (show 0 + 3 ≤ 3 by omega) (show 0 + 3 ≤ 3 by omega) h (show 0 + 640 ≤ 640 by omega))

/-- The copy of `n` rows of weights from row `n0` into scratch. -/
def wPiece (c : Dev nD) (fh0 : HbBuf0 (F := F) c hbM0_0) (n0 n : Nat) (h : n0 + n ≤ 1920) : View.Piece (Elt F) S3x3x1920x640 .i8 :=
  ⟨wRect n0 n h, wBlk c fh0 (wRect n0 n h) fun _ => rfl⟩

/-- The copies of the weights into scratch, one per N tile. -/
def wPieces (c : Dev nD) (fh0 : HbBuf0 (F := F) c hbM0_0) : List (View.Piece (Elt F) S3x3x1920x640 .i8) :=
  ((fins 7).map fun nt => wPiece c fh0 (nt.val * 256) 256 (by omega)) ++ [wPiece c fh0 1792 128 (by omega)]

/-- The weight block of tap `(kh, kw)`, K tile `T` and a whole N tile. -/
def wFull (arg8 : Memref sig .tc .vmem S3x3x1920x640 .i8) (ws : List (View.Piece (Elt F) S3x3x1920x640 .i8))
    (nt : Fin 7) (kh kw : Fin 3) (T : Fin 5) : Vec F S1x1x256x128 .i8 :=
  arg8.view.readCov ws (Rect.unit (s := S3x3x1920x640) ![kh.val, kw.val, nt.val * 256, T.val * 128] S1x1x256x128.size
    (inb4 (show kh.val + 1 ≤ 3 by omega) (show kw.val + 1 ≤ 3 by omega) (show nt.val * 256 + 256 ≤ 1920 by omega)
      (show T.val * 128 + 128 ≤ 640 by omega))).toLoadRect

/-- The weight block of the last N tile. -/
def wLast (arg8 : Memref sig .tc .vmem S3x3x1920x640 .i8) (ws : List (View.Piece (Elt F) S3x3x1920x640 .i8))
    (kh kw : Fin 3) (T : Fin 5) : Vec F S1x1x128x128 .i8 :=
  arg8.view.readCov ws (Rect.unit (s := S3x3x1920x640) ![kh.val, kw.val, 1792, T.val * 128] S1x1x128x128.size
    (inb4 (show kh.val + 1 ≤ 3 by omega) (show kw.val + 1 ≤ 3 by omega) (show 1792 + 128 ≤ 1920 by omega)
      (show T.val * 128 + 128 ≤ 640 by omega))).toLoadRect

/-- The row sums of output row `ho`, loaded after `n` stores of them. -/
def rsOf (arg13 : Memref sig .tc .vmem S224x128 .i32) (rs : List (View.Piece (Elt F) S224x128 .i32)) (ho : Fin 7) : Vec F S32x128 .i32 :=
  arg13.view.readCov rs (Rect.unit (s := S224x128) ![ho.val * 32, 0] S32x128.size
    (inb2 (show ho.val * 32 + 32 ≤ 224 by omega) (show 0 + 128 ≤ 128 by omega))).toLoadRect

/-- 128 entries of a per-channel operand. -/
def chanOf (arg3 : Memref sig .tc .vmem S1x1920 .i32) (harg3 : arg3.IsWhole) (x3 : Vec F S1x1920 .i32) (n : Fin 15) : Vec F S1x128 .i32 :=
  View.readAt (Elt F) arg3.view (Rect.unit (s := S1x1920) ![0, n.val * 128] S1x128.size
    (inb2 (show 0 + 1 ≤ 1 by omega) (show n.val * 128 + 128 ≤ 1920 by omega))).toLoadRect (harg3.unread x3)

theorem rsum_eq (c : Dev nD) (arg0 : Memref sig .tc .vmem S6x10x14x1280 .i8) (harg0 : arg0.IsWhole)
    (arg1 : Memref sig .tc .smem S1 .i32) (harg1 : arg1.IsWhole) (arg8 : Memref sig .tc .vmem S3x3x1920x640 .i8)
    (arg9 : Memref sig .tc .vmem S2x10x256x128 .i32)
    (arg10 : Memref sig .tc .vmem S2x2x224x1280 .bf16) (arg11 : Memref sig .tc .vmem S2x176x1280 .bf16)
    (arg12 : Memref sig .tc .vmem S144x1280 .bf16)
    (x0 : Vec F S6x10x14x1280 .i8) (x1 : Vec F S1 .i32) (fh0 : HbBuf0 (F := F) c hbM0_0) :
    kernelRun0_A_s5.sl.HS5_7 c arg0 harg0 arg1 harg1 arg8 arg9 arg10 arg11 arg12 x0 x1 fh0 =
      rsumModel (lhsOf arg10 arg11 arg12 (kernelRun0_A_s4.sl.HS2_280 c arg0 harg0 arg1 harg1 arg9 x0 x1) (kernelRun0_A_s4.sl.HS3_20 c arg0 harg0 arg1 harg1 arg9 x0 x1)
        (kernelRun0_A_s4.sl.HS4_10 c arg0 harg0 arg1 harg1 arg9 x0 x1)) (fun kh kw => rhsLast (wLast arg8 (wPieces c fh0) kh kw)) 7 (by decide) := by
  sl_kernel_rfl

theorem codes_eq (c : Dev nD) (arg0 : Memref sig .tc .vmem S6x10x14x1280 .i8) (harg0 : arg0.IsWhole)
    (arg1 : Memref sig .tc .smem S1 .i32) (harg1 : arg1.IsWhole) (arg2 : Memref sig .tc .smem S1 .i32) (harg2 : arg2.IsWhole)
    (arg3 : Memref sig .tc .vmem S1x1920 .i32) (harg3 : arg3.IsWhole) (arg4 : Memref sig .tc .vmem S1x1920 .i32) (harg4 : arg4.IsWhole)
    (arg5 : Memref sig .tc .vmem S1x1920 .i32) (harg5 : arg5.IsWhole) (arg8 : Memref sig .tc .vmem S3x3x1920x640 .i8)
    (arg9 : Memref sig .tc .vmem S2x10x256x128 .i32)
    (arg10 : Memref sig .tc .vmem S2x2x224x1280 .bf16) (arg11 : Memref sig .tc .vmem S2x176x1280 .bf16)
    (arg12 : Memref sig .tc .vmem S144x1280 .bf16) (arg13 : Memref sig .tc .vmem S224x128 .i32)
    (x0 : Vec F S6x10x14x1280 .i8) (x1 x2 : Vec F S1 .i32) (x3 x4 x5 : Vec F S1x1920 .i32) (fh0 : HbBuf0 (F := F) c hbM0_0) :
    kernelRun0_A_s7.sl.HS6_105 c arg0 harg0 arg1 harg1 arg2 harg2 arg3 harg3 arg4 harg4 arg5 harg5 arg8 arg9 arg10 arg11 arg12 arg13 x0 x1 x2 x3 x4 x5 fh0 =
      codesModel (lhsOf arg10 arg11 arg12 (kernelRun0_A_s4.sl.HS2_280 c arg0 harg0 arg1 harg1 arg9 x0 x1) (kernelRun0_A_s4.sl.HS3_20 c arg0 harg0 arg1 harg1 arg9 x0 x1)
          (kernelRun0_A_s4.sl.HS4_10 c arg0 harg0 arg1 harg1 arg9 x0 x1))
        (fun kh kw => rhsLast (wLast arg8 (wPieces c fh0) kh kw)) (fun nt kh kw => rhsFull (wFull arg8 (wPieces c fh0) nt kh kw))
        (fun ho => rsOf arg13 (rsumModel (lhsOf arg10 arg11 arg12 (kernelRun0_A_s4.sl.HS2_280 c arg0 harg0 arg1 harg1 arg9 x0 x1)
          (kernelRun0_A_s4.sl.HS3_20 c arg0 harg0 arg1 harg1 arg9 x0 x1) (kernelRun0_A_s4.sl.HS4_10 c arg0 harg0 arg1 harg1 arg9 x0 x1))
          (fun kh kw => rhsLast (wLast arg8 (wPieces c fh0) kh kw)) (ho.val + 1) (by omega)) ho)
        (fun ho => rsOf arg13 (kernelRun0_A_s5.sl.HS5_7 c arg0 harg0 arg1 harg1 arg8 arg9 arg10 arg11 arg12 x0 x1 fh0) ho)
        (chanOf arg3 harg3 x3) (chanOf arg4 harg4 x4) (chanOf arg5 harg5 x5) (scalarOf arg2 harg2 x2) := by
  sl_kernel_rfl

theorem out_eq (c : Dev nD) (arg0 : Memref sig .tc .vmem S6x10x14x1280 .i8) (harg0 : arg0.IsWhole)
    (arg1 : Memref sig .tc .smem S1 .i32) (harg1 : arg1.IsWhole) (arg2 : Memref sig .tc .smem S1 .i32) (harg2 : arg2.IsWhole)
    (arg3 : Memref sig .tc .vmem S1x1920 .i32) (harg3 : arg3.IsWhole) (arg4 : Memref sig .tc .vmem S1x1920 .i32) (harg4 : arg4.IsWhole)
    (arg5 : Memref sig .tc .vmem S1x1920 .i32) (harg5 : arg5.IsWhole) (arg7 : Memref sig .tc .vmem S6x5x7x1920 .i8) (harg7 : arg7.IsWhole)
    (arg8 : Memref sig .tc .vmem S3x3x1920x640 .i8) (harg8 : arg8.IsWhole)
    (arg9 : Memref sig .tc .vmem S2x10x256x128 .i32) (harg9 : arg9.IsWhole)
    (arg10 : Memref sig .tc .vmem S2x2x224x1280 .bf16) (harg10 : arg10.IsWhole) (arg11 : Memref sig .tc .vmem S2x176x1280 .bf16) (harg11 : arg11.IsWhole)
    (arg12 : Memref sig .tc .vmem S144x1280 .bf16) (harg12 : arg12.IsWhole) (arg13 : Memref sig .tc .vmem S224x128 .i32) (harg13 : arg13.IsWhole)
    (arg14 : Memref sig .tc .vmem S15x224x128 .i32) (harg14 : arg14.IsWhole)
    (x0 : Vec F S6x10x14x1280 .i8) (x1 x2 : Vec F S1 .i32) (x3 x4 x5 : Vec F S1x1920 .i32) (fh0 : HbBuf0 (F := F) c hbM0_0) :
    (kernelRun0_A c arg0 harg0 arg1 harg1 arg2 harg2 arg3 harg3 arg4 harg4 arg5 harg5 arg7 harg7 arg8 harg8 arg9 harg9 arg10 harg10
      arg11 harg11 arg12 harg12 arg13 harg13 arg14 harg14 x0 x1 x2 x3 x4 x5 fh0).1 =
      outModel fun wo b n => arg14.view.readCov
        (kernelRun0_A_s7.sl.HS6_105 c arg0 harg0 arg1 harg1 arg2 harg2 arg3 harg3 arg4 harg4 arg5 harg5 arg8 arg9 arg10 arg11 arg12 arg13 x0 x1 x2 x3 x4 x5 fh0)
        (codeRect wo b n) := by
  sl_kernel_rfl

end Cert.Conv
-- ==== Proof.V1.lean ====
module

public import proofs.«01_k».proof.Proof.T2
public import Idealize.ShloMosaic.Lib.Pointwise
public import Idealize.ShloMosaic.Lib.BitcastPair

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

theorem mem_fins {n : Nat} (i : Fin n) : i ∈ fins n := by
  induction n with
  | zero => exact i.elim0
  | succ n ih =>
    refine Fin.cases ?_ (fun j => ?_) i
    · exact List.mem_cons_self
    · exact List.mem_cons_of_mem _ (List.mem_map.2 ⟨j, ih j, rfl⟩)

/-- Stores that each hold the values of one function leave that function where they cover. -/
theorem canon_eq {s : Shape} {e : EltTy} (f : s.Idx → Elt Ideal e) (y : s.Idx) :
    ∀ L : List (View.Piece (Elt Ideal) s e), (∀ p ∈ L, ∀ x, p.2 x = f (p.1.emb x)) → (∃ p ∈ L, ∃ x, p.1.emb x = y) →
      View.canon L y = f y
  | [], _, h => by obtain ⟨p, hp, _⟩ := h; cases hp
  | p :: L, hf, h => by
    by_cases hy : y ∈ p.1.set
    · obtain ⟨x, rfl⟩ := p.1.exists_idx_of_mem hy
      exact (View.canon_cons_emb p.1 p.2 L x).trans (hf p List.mem_cons_self x)
    · rw [View.canon_cons_of_not_mem p L hy]
      refine canon_eq f y L (fun q hq => hf q (List.mem_cons_of_mem _ hq)) ?_
      obtain ⟨q, hq, x, hx⟩ := h
      rcases List.mem_cons.1 hq with rfl | hq
      · exact absurd (hx ▸ q.1.idx_mem x) hy
      · exact ⟨q, hq, x, hx⟩

/-! ### Numbers -/

/-- An image element less its zero point; zero outside the image. -/
def centred (x : S6x10x14x1280.Idx → BitVec 8) (z : BitVec 32) (b w h c : Nat) : ℤ :=
  if hh : b < 6 ∧ w < 10 ∧ h < 14 ∧ c < 1280 then
    (x (ix4 ⟨b, hh.1⟩ ⟨w, hh.2.1⟩ ⟨h, hh.2.2.1⟩ ⟨c, hh.2.2.2⟩)).toInt - z.toInt else 0

/-- The image element a group of rows reads: group `g` is position `g / 6` of batch `g % 6`. -/
def left (x : S6x10x14x1280.Idx → BitVec 8) (z : BitVec 32) (wp g h c : Nat) : ℤ :=
  if g < 30 then centred x z (g % 6) (2 * (g / 6) + wp) h c else 0

theorem centred_bound (x : S6x10x14x1280.Idx → BitVec 8) (z : BitVec 32) (hz : -128 ≤ z.toInt ∧ z.toInt ≤ 127) (b w h c : Nat) :
    -256 ≤ centred x z b w h c ∧ centred x z b w h c ≤ 255 := by
  unfold centred
  split
  · next hh =>
    have h1 := BitVec.le_toInt (x (ix4 ⟨b, hh.1⟩ ⟨w, hh.2.1⟩ ⟨h, hh.2.2.1⟩ ⟨c, hh.2.2.2⟩))
    have h2 := BitVec.toInt_lt (x := x (ix4 ⟨b, hh.1⟩ ⟨w, hh.2.1⟩ ⟨h, hh.2.2.1⟩ ⟨c, hh.2.2.2⟩))
    norm_num at h1 h2
    omega
  · omega

theorem left_bound (x : S6x10x14x1280.Idx → BitVec 8) (z : BitVec 32) (hz : -128 ≤ z.toInt ∧ z.toInt ≤ 127) (wp g h c : Nat) :
    -256 ≤ left x z wp g h c ∧ left x z wp g h c ≤ 255 := by
  unfold left
  split
  · exact centred_bound x z hz _ _ _ _
  · omega

/-- Two 16-bit integers in one word. -/
def wordOf (lo hi : ℤ) : BitVec 32 := BitVec.ofInt 16 hi ++ BitVec.ofInt 16 lo

/-- An integer in range converts exactly. -/
theorem fptosi_int (w : Nat) (z : ℤ) (h1 : -(2 ^ (w - 1) : Nat) ≤ z) (h2 : z ≤ (2 ^ (w - 1) : Nat) - 1) :
    (FloatOps.fptosi w (F := Ideal) (φ := .f32) ((z : ℝ) : EReal)) = BitVec.ofInt w z := by
  show Ideal.fptosi w ((z : ℝ) : EReal) = _
  rw [Ideal.fptosi, Ideal.toIntClamped_coe]
  congr 1
  simp only [Int.floor_intCast, Int.ceil_intCast, ite_self]
  omega

theorem fptosi_int_bf16 (w : Nat) (z : ℤ) (h1 : -(2 ^ (w - 1) : Nat) ≤ z) (h2 : z ≤ (2 ^ (w - 1) : Nat) - 1) :
    (FloatOps.fptosi w (F := Ideal) (φ := .bf16) ((z : ℝ) : EReal)) = BitVec.ofInt w z := fptosi_int w z h1 h2

theorem toInt_ofInt16 (z : ℤ) (h : -32768 ≤ z ∧ z ≤ 32767) : (BitVec.ofInt 16 z).toInt = z := by
  rw [BitVec.toInt_ofInt]
  exact Int.bmod_eq_of_le (by norm_num; omega) (by norm_num; omega)

/-- The low half of a word, sign extended by the two shifts. -/
theorem lo_wordOf (lo hi : ℤ) (h : -32768 ≤ lo ∧ lo ≤ 32767) :
    (((wordOf lo hi) <<< 16).sshiftRight 16).toInt = lo := by
  have : ∀ a b : BitVec 16, (((a ++ b : BitVec 32) <<< 16).sshiftRight 16) = b.signExtend 32 := by
    intro a b
    refine BitVec.eq_of_getLsbD_eq fun i hi => ?_
    rw [BitVec.getLsbD_sshiftRight, BitVec.getLsbD_signExtend, BitVec.msb_eq_getLsbD_last, BitVec.msb_eq_getLsbD_last]
    simp only [BitVec.getLsbD_shiftLeft, BitVec.getLsbD_append]
    rcases lt_or_ge i 16 with h | h
    · simp [h, hi, show 16 + i < 32 by omega]
    · simp [show ¬ i < 16 by omega, show ¬ i + 16 < 32 by omega, hi, show ¬ 16 + i < 32 by omega]
  rw [wordOf, this, BitVec.toInt_signExtend_of_le (by norm_num), toInt_ofInt16 _ h]

theorem hi_wordOf (lo hi : ℤ) (h : -32768 ≤ hi ∧ hi ≤ 32767) : ((wordOf lo hi).sshiftRight 16).toInt = hi := by
  have : ∀ a b : BitVec 16, ((a ++ b : BitVec 32).sshiftRight 16) = a.signExtend 32 := by
    intro a b
    refine BitVec.eq_of_getLsbD_eq fun i hi => ?_
    rw [BitVec.getLsbD_sshiftRight, BitVec.getLsbD_signExtend, BitVec.msb_eq_getLsbD_last, BitVec.msb_eq_getLsbD_last]
    simp only [BitVec.getLsbD_append]
    rcases lt_or_ge i 16 with h | h
    · simp [h, hi, show 16 + i < 32 by omega]
    · simp [show ¬ i < 16 by omega, show ¬ i + 16 < 32 by omega, hi, show ¬ 16 + i < 32 by omega]
  rw [wordOf, this, BitVec.toInt_signExtend_of_le (by norm_num), toInt_ofInt16 _ h]

/-! ### The words -/

theorem srcIdx_pair (h : Fin 7) (c : Fin 1280) (p : Nat) (hp) (hp' : p < 14) :
    bitcasts_S14x1280_w16_S7x1280_w32.srcIdx (ix2 h c) p hp = ix2 ⟨p, hp'⟩ c := by
  funext a
  apply Fin.ext
  fin_cases a
  · exact Shape.Bitcasts.srcIdx_row _ _ _ _ _ rfl
  · exact Shape.Bitcasts.srcIdx_other _ _ _ _ _ (by decide)

theorem bitcast_rows (y : S14x1280.Idx → BitVec 16) (h : Fin 7) (c : Fin 1280) :
    bitcast S7x1280 32 y bitcasts_S14x1280_w16_S7x1280_w32 (ix2 h c) =
      y (ix2 ⟨2 * h.val + 1, by omega⟩ c) ++ y (ix2 ⟨2 * h.val, by omega⟩ c) := by
  rw [bitcast_16_32]
  exact congrArg₂ (fun a b => y a ++ y b) (srcIdx_pair h c (2 * h.val + 1) _ (by omega)) (srcIdx_pair h c (2 * h.val) _ (by omega))

theorem pairWords_apply (x : IVec S1x1x14x1280 8) (zi : BitVec 32) (hz : -128 ≤ zi.toInt ∧ zi.toInt ≤ 127) (h : Fin 7) (c : Fin 1280) :
    pairWords (F := Ideal) x zi (ix2 h c) = wordOf ((x (ix4 0 0 ⟨2 * h.val, by omega⟩ c)).toInt - zi.toInt)
      ((x (ix4 0 0 ⟨2 * h.val + 1, by omega⟩ c)).toInt - zi.toInt) := by
  have hb (v : BitVec 8) : FloatOps.fptosi 16 (F := Ideal) (φ := .bf16)
      ((((v.toInt : ℝ) : EReal)) - (((zi.toInt : ℝ) : EReal))) = BitVec.ofInt 16 (v.toInt - zi.toInt) := by
    have h1 := BitVec.le_toInt v
    have h2 := BitVec.toInt_lt (x := v)
    norm_num at h1 h2
    rw [← EReal.coe_sub, ← Int.cast_sub]
    exact fptosi_int_bf16 16 _ (by norm_num; omega) (by norm_num; omega)
  unfold pairWords
  rw [bitcast_rows]
  pointwise
  exact congrArg₂ (· ++ ·) (hb _) (hb _)

theorem gather_lane : ∀ (par : Fin 2) (h : Fin 7) (l : Fin 128),
    (gatherIdx (srcLane par) (ix2 h l)).toNat % 128 = (2 * l.val) % 128 + par.val := by
  intro par h l
  unfold gatherIdx
  match par with
  | 0 =>
    unfold srcLane twiceLane lane
    pointwise
    revert l; decide +kernel
  | 1 =>
    unfold srcLane twiceLane lane
    pointwise
    revert l; decide +kernel

theorem lowHalf_apply : ∀ (h : Fin 7) (l : Fin 128), lowHalf (ix2 h l) = BitVec.ofBool (decide (l.val < 64)) := by
  intro h l
  unfold lowHalf lane
  pointwise
  revert l; decide +kernel

theorem wordPay_apply (x : IVec S1x1x14x1280 8) (zi : BitVec 32) (T : Fin 5) (par : Fin 2) (h : Fin 7) (l : Fin 128) :
    wordPay (F := Ideal) x zi T par (ix4 0 0 h l) =
      pairWords (F := Ideal) x zi (ix2 h ⟨256 * T.val + 2 * l.val + par.val, by omega⟩) := by
  have hg := gather_lane par h l
  have hp := par.isLt
  unfold wordPay
  pointwise [lowHalf_apply]
  rcases lt_or_ge l.val 64 with h64 | h64
  · have e : (⟨256 * T.val + (gatherIdx (srcLane par) (ix2 h l)).toNat % 128, by omega⟩ : Fin 1280) =
        ⟨256 * T.val + 2 * l.val + par.val, by omega⟩ := Fin.ext (show 256 * T.val + (gatherIdx (srcLane par) (ix2 h l)).toNat % 128 = 256 * T.val + 2 * l.val + par.val by omega)
    simp only [h64, decide_true, e]
    rfl
  · have e : (⟨256 * T.val + 128 + (gatherIdx (srcLane par) (ix2 h l)).toNat % 128, by omega⟩ : Fin 1280) =
        ⟨256 * T.val + 2 * l.val + par.val, by omega⟩ := Fin.ext (show 256 * T.val + 128 + (gatherIdx (srcLane par) (ix2 h l)).toNat % 128 = 256 * T.val + 2 * l.val + par.val by omega)
    simp only [show ¬ l.val < 64 by omega, decide_false, e]
    rfl

end Cert.Conv
-- ==== Proof.V2.lean ====
module

public import proofs.«01_k».proof.Proof.V1

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

variable (x : S6x10x14x1280.Idx → BitVec 8) (z : BitVec 32)

/-- The channel in lane `l` of plane `lt` of the word buffer. -/
def chan (lt l : Nat) : Nat := 256 * (lt / 2) + 2 * l + lt % 2

/-- The word buffer's element at plane `lt`, row `row` and lane `l`, for image columns of parity `wp`. -/
def wordN (wp lt row l : Nat) : BitVec 32 :=
  wordOf (left x z wp (row / 8) (2 * (row % 8)) (chan lt l)) (left x z wp (row / 8) (2 * (row % 8) + 1) (chan lt l))

def wordsF (i : S2x10x256x128.Idx) : BitVec 32 := wordN x z (i 0).val (i 1).val (i 2).val (i 3).val

theorem left_group {wo b wp h c : Nat} (hwo : wo < 5) (hb : b < 6) (hwp : wp < 2) (hh : h < 14) (hc : c < 1280) :
    left x z wp (wo * 6 + b) h c = (x (ix4 ⟨b, hb⟩ ⟨2 * wo + wp, by omega⟩ ⟨h, hh⟩ ⟨c, hc⟩)).toInt - z.toInt := by
  unfold left
  rw [if_pos (by omega), show (wo * 6 + b) % 6 = b by omega, show (wo * 6 + b) / 6 = wo by omega]
  unfold centred
  rw [dif_pos ⟨hb, by omega, hh, hc⟩]

theorem left_none {wp g h c : Nat} (hg : 30 ≤ g) : left x z wp g h c = 0 := if_neg (by omega)

theorem idx4_eta {a b c d : Nat} (i : (⟨4, ![a, b, c, d]⟩ : Shape).Idx) : i = ix4 (i 0) (i 1) (i 2) (i 3) := by
  funext k; fin_cases k <;> rfl

theorem idx4_unit {c d : Nat} (i : (⟨4, ![1, 1, c, d]⟩ : Shape).Idx) : ∃ (h : Fin c) (l : Fin d), i = ix4 0 0 h l := by
  refine ⟨i 2, i 3, ?_⟩
  have h0 : (i 0).val < 1 := (i 0).isLt
  have h1 : (i 1).val < 1 := (i 1).isLt
  funext k
  apply Fin.ext
  fin_cases k
  · show (i 0).val = 0; omega
  · show (i 1).val = 0; omega
  · rfl
  · rfl

theorem wordPiece_spec (hz : -128 ≤ z.toInt ∧ z.toInt ≤ 127) (X : IVec S1x1x14x1280 8) (wp : Fin 2) (wo : Fin 5) (b : Fin 6) (T : Fin 5)
    (par : Fin 2) (hX : ∀ h c, X (ix4 0 0 h c) = x (ix4 b ⟨2 * wo.val + wp.val, by omega⟩ h c)) (i : S1x1x7x128.Idx) :
    (wordPiece (F := Ideal) X z wp wo b T par).2 i = wordsF x z ((wordPiece (F := Ideal) X z wp wo b T par).1.emb i) := by
  obtain ⟨h, l, rfl⟩ := idx4_unit i
  show wordPay (F := Ideal) X z T par (ix4 0 0 h l) = wordN x z (wp.val + 1 * 0) (2 * T.val + par.val + 1 * 0)
    ((wo.val * 6 + b.val) * 8 + 1 * h.val) (0 + 1 * l.val)
  have hp := par.isLt
  rw [wordPay_apply, pairWords_apply _ _ hz, hX, hX]
  unfold wordN
  rw [show ((wo.val * 6 + b.val) * 8 + 1 * h.val) / 8 = wo.val * 6 + b.val by omega,
    show ((wo.val * 6 + b.val) * 8 + 1 * h.val) % 8 = h.val by omega,
    show wp.val + 1 * 0 = wp.val by omega,
    show chan (2 * T.val + par.val + 1 * 0) (0 + 1 * l.val) = 256 * T.val + 2 * l.val + par.val by unfold chan; omega,
    left_group x z wo.isLt b.isLt wp.isLt (by omega) (by omega), left_group x z wo.isLt b.isLt wp.isLt (by omega) (by omega)]

theorem zeroPiece_spec (wp : Fin 2) (lt : Fin 10) (i) :
    (zeroPiece (F := Ideal) wp lt).2 i = wordsF x z ((zeroPiece (F := Ideal) wp lt).1.emb i) := by
  show _ = wordN x z (wp.val + 1 * (i 0).val) (lt.val + 1 * (i 1).val) (240 + 1 * (i 2).val) (0 + 1 * (i 3).val)
  unfold wordN
  rw [left_none x z (by omega), left_none x z (by omega)]
  rfl

theorem words_canon (hz : -128 ≤ z.toInt ∧ z.toInt ≤ 127) (X : Fin 6 → Fin 10 → IVec S1x1x14x1280 8)
    (hX : ∀ b w h c, X b w (ix4 0 0 h c) = x (ix4 b w h c)) (y : S2x10x256x128.Idx) (hy : (y 2).val % 8 < 7) :
    View.canon (wordsModel (F := Ideal) X z) y = wordsF x z y := by
  refine canon_eq (e := .i32) (wordsF x z) y _ ?_ ?_
  · intro p hp i
    simp only [wordsModel, List.mem_reverse, List.mem_flatMap, List.mem_append, List.mem_map] at hp
    obtain ⟨wp, -, ⟨lt, -, rfl⟩ | ⟨wo, -, b, -, T, -, par, -, rfl⟩⟩ := hp
    · exact zeroPiece_spec x z wp lt i
    · exact wordPiece_spec x z hz _ wp wo b T par (fun h c => hX _ _ _ _) i
  · have h0 : (y 0).val < 2 := (y 0).isLt
    have h1 : (y 1).val < 10 := (y 1).isLt
    have h2 : (y 2).val < 256 := (y 2).isLt
    have h3 : (y 3).val < 128 := (y 3).isLt
    simp only [wordsModel, List.mem_reverse, List.mem_flatMap, List.mem_append, List.mem_map]
    rcases lt_or_ge (y 2).val 240 with hr | hr
    · refine ⟨_, ⟨⟨(y 0).val, h0⟩, mem_fins _, Or.inr ⟨⟨(y 2).val / 8 / 6, by omega⟩, mem_fins _, ⟨(y 2).val / 8 % 6, by omega⟩, mem_fins _,
        ⟨(y 1).val / 2, by omega⟩, mem_fins _, ⟨(y 1).val % 2, by omega⟩, mem_fins _, rfl⟩⟩,
        (ix4 0 0 ⟨(y 2).val % 8, hy⟩ (y 3) : S1x1x7x128.Idx), ?_⟩
      funext k
      apply Fin.ext
      fin_cases k
      · show (y 0).val + 1 * 0 = (y 0).val; omega
      · show 2 * ((y 1).val / 2) + (y 1).val % 2 + 1 * 0 = (y 1).val; omega
      · show ((y 2).val / 8 / 6 * 6 + (y 2).val / 8 % 6) * 8 + 1 * ((y 2).val % 8) = (y 2).val; omega
      · show 0 + 1 * (y 3).val = (y 3).val; omega
    · refine ⟨_, ⟨⟨(y 0).val, h0⟩, mem_fins _, Or.inl ⟨⟨(y 1).val, h1⟩, mem_fins _, rfl⟩⟩,
        (ix4 0 0 ⟨(y 2).val - 240, by omega⟩ (y 3) : S1x1x16x128.Idx), ?_⟩
      funext k
      apply Fin.ext
      fin_cases k
      · show (y 0).val + 1 * 0 = (y 0).val; omega
      · show (y 1).val + 1 * 0 = (y 1).val; omega
      · show 240 + 1 * ((y 2).val - 240) = (y 2).val; omega
      · show 0 + 1 * (y 3).val = (y 3).val; omega

/-! ### The left operands -/

theorem ofBits_512 : Ideal.ofBits .f32 0x44000000#32 = ((512 : ℝ) : EReal) := by
  simp [Ideal.ofBits, Ideal.ieee, -EReal.coe_mul]; norm_num

/-- A halved word, as a number scaled by 512. -/
theorem halves_apply {s : Shape} (W : IVec s 32) (par : Fin 2) (i : s.Idx) (lo hi : ℤ) (hW : W i = wordOf lo hi)
    (hlo : -256 ≤ lo ∧ lo ≤ 255) (hhi : -256 ≤ hi ∧ hi ≤ 255) :
    halves (F := Ideal) W par i = ((((if par.val = 0 then lo else hi : ℤ) : ℝ) * 512 : ℝ) : EReal) := by
  match par with
  | 0 =>
    have h := lo_wordOf lo hi (by omega)
    unfold halves
    pointwise
    rw [hW, ofBits_512]
    show ((((((wordOf lo hi) <<< 16).sshiftRight 16).toInt : ℝ) : EReal)) * ((512 : ℝ) : EReal) = _
    rw [h, ← EReal.coe_mul]
  | 1 =>
    have h := hi_wordOf lo hi (by omega)
    unfold halves
    pointwise
    rw [hW, ofBits_512]
    show (((((wordOf lo hi).sshiftRight 16).toInt : ℝ) : EReal)) * ((512 : ℝ) : EReal) = _
    rw [h, ← EReal.coe_mul]

/-- The channel of column `c` of a left operand. -/
def chanCol (c : Nat) : Nat := 256 * (c / 256) + 2 * (c % 128) + c / 128 % 2

/-- An image number scaled by 512. -/
def scaled (a : ℤ) : EReal := (((a : ℝ) * 512 : ℝ) : EReal)

end Cert.Conv
-- ==== Proof.V3.lean ====
module

public import proofs.«01_k».proof.Proof.V2

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

variable (x : S6x10x14x1280.Idx → BitVec 8) (z : BitVec 32)

/-- `lm`: plane `p`, columns of parity `wp`, row `ho * 32 + g`, column `c`. -/
def lmN (p wp r c : Nat) : EReal := scaled (left x z wp (r % 32) (2 * (r / 32) + p) (chanCol c))

def lmF (i : S2x2x224x1280.Idx) : EReal := lmN x z (i 0).val (i 1).val (i 2).val (i 3).val

/-- `ld`: plane `p`, row `ho * 24 + i` of group `6 + i`; zero behind. -/
def ldN (p r c : Nat) : EReal := if r < 168 then scaled (left x z 0 (6 + r % 24) (2 * (r / 24) + p) (chanCol c)) else 0

def ldF (i : S2x176x1280.Idx) : EReal := ldN x z (i 0).val (i 1).val (i 2).val

/-- `ld2`: row `(ho - 1) * 24 + i`, even image rows. -/
def ld2N (r c : Nat) : EReal := scaled (left x z 0 (6 + r % 24) (2 * (r / 24 + 1)) (chanCol c))

def ld2F (i : S144x1280.Idx) : EReal := ld2N x z (i 0).val (i 1).val

theorem halves_word {s : Shape} (hz : -128 ≤ z.toInt ∧ z.toInt ≤ 127) (W : IVec s 32) (par : Fin 2) (i : s.Idx) (wp lt g ho l : Nat)
    (hho : ho < 7) (hW : W i = wordN x z wp lt (g * 8 + ho) l) :
    halves (F := Ideal) W par i = scaled (left x z wp g (2 * ho + par.val) (chan lt l)) := by
  have hp := par.isLt
  unfold wordN at hW
  rw [show (g * 8 + ho) / 8 = g by omega, show (g * 8 + ho) % 8 = ho by omega] at hW
  rw [halves_apply W par i _ _ hW (left_bound x z hz _ _ _ _) (left_bound x z hz _ _ _ _)]
  unfold scaled
  rcases Nat.lt_or_ge par.val 1 with h | h
  · rw [if_pos (by omega), show 2 * ho + par.val = 2 * ho by omega]
  · rw [if_neg (by omega), show 2 * ho + par.val = 2 * ho + 1 by omega]

theorem chanCol_eq {lt l : Nat} (hl : l < 128) : chanCol (lt * 128 + 1 * l) = chan lt l := by
  unfold chanCol chan; omega

theorem lmPiece_spec (hz : -128 ≤ z.toInt ∧ z.toInt ≤ 127) (W : IVec S1x1x32x128 32) (lt : Fin 10) (wp : Fin 2) (ho : Fin 7)
    (par : Fin 2) (hW : ∀ g l, W (ix4 0 0 g l) = wordN x z wp.val lt.val (g.val * 8 + ho.val) l.val) (i : S1x1x32x128.Idx) :
    (lmPiece (F := Ideal) W lt wp ho par).2 i = lmF x z ((lmPiece (F := Ideal) W lt wp ho par).1.emb i) := by
  obtain ⟨g, l, rfl⟩ := idx4_unit i
  show _ = lmN x z (par.val + 1 * 0) (wp.val + 1 * 0) (ho.val * 32 + 1 * g.val) (lt.val * 128 + 1 * l.val)
  unfold lmN
  rw [chanCol_eq l.isLt, show (ho.val * 32 + 1 * g.val) % 32 = g.val by omega, show (ho.val * 32 + 1 * g.val) / 32 = ho.val by omega]
  refine Eq.trans ?_ (halves_word x z hz (shapeCast S32x128 W shapeCasts_S1x1x32x128_S32x128) par (ix2 g l) wp.val lt.val g.val ho.val l.val
    ho.isLt ?_)
  · unfold lmPiece
    pointwise
  · pointwise
    exact hW g l

theorem lm_canon (hz : -128 ≤ z.toInt ∧ z.toInt ≤ 127) (W : Fin 2 → Fin 10 → Fin 7 → IVec S1x1x32x128 32)
    (hW : ∀ wp lt ho g l, W wp lt ho (ix4 0 0 g l) = wordN x z wp.val lt.val (g.val * 8 + ho.val) l.val) (y : S2x2x224x1280.Idx) :
    View.canon (lmModel (F := Ideal) W) y = lmF x z y := by
  refine canon_eq (e := .bf16) (lmF x z) y _ ?_ ?_
  · intro p hp i
    simp only [lmModel, List.mem_reverse, List.mem_flatMap, List.mem_map] at hp
    obtain ⟨lt, -, wp, -, ho, -, par, -, rfl⟩ := hp
    exact lmPiece_spec x z hz _ lt wp ho par (fun g l => hW _ _ _ _ _) i
  · have h0 : (y 0).val < 2 := (y 0).isLt
    have h1 : (y 1).val < 2 := (y 1).isLt
    have h2 : (y 2).val < 224 := (y 2).isLt
    have h3 : (y 3).val < 1280 := (y 3).isLt
    simp only [lmModel, List.mem_reverse, List.mem_flatMap, List.mem_map]
    refine ⟨_, ⟨⟨(y 3).val / 128, by omega⟩, mem_fins _, ⟨(y 1).val, h1⟩, mem_fins _, ⟨(y 2).val / 32, by omega⟩, mem_fins _,
      ⟨(y 0).val, h0⟩, mem_fins _, rfl⟩, (ix4 0 0 ⟨(y 2).val % 32, by omega⟩ ⟨(y 3).val % 128, by omega⟩ : S1x1x32x128.Idx), ?_⟩
    funext k
    apply Fin.ext
    fin_cases k
    · show (y 0).val + 1 * 0 = (y 0).val; omega
    · show (y 1).val + 1 * 0 = (y 1).val; omega
    · show (y 2).val / 32 * 32 + 1 * ((y 2).val % 32) = (y 2).val; omega
    · show (y 3).val / 128 * 128 + 1 * ((y 3).val % 128) = (y 3).val; omega

theorem ldRow_apply (hz : -128 ≤ z.toInt ∧ z.toInt ≤ 127) (W : IVec S1x1x24x128 32) (lt ho : Nat) (par : Fin 2) (hho : ho < 7)
    (hW : ∀ g l, W (ix4 0 0 g l) = wordN x z 0 lt ((6 + g.val) * 8 + ho) l.val) (i : Fin 24) (l : Fin 128) :
    ldRow (F := Ideal) W par (ix2 i l) = scaled (left x z 0 (6 + i.val) (2 * ho + par.val) (chan lt l.val)) := by
  refine halves_word x z hz (shapeCast S24x128 W shapeCasts_S1x1x24x128_S24x128) par (ix2 i l) 0 lt (6 + i.val) ho l.val hho ?_
  pointwise
  exact hW i l

theorem fins_eq (n : Nat) : fins n = List.finRange n := by
  induction n with
  | zero => rfl
  | succ n ih => rw [List.finRange_succ, ← ih]; rfl

/-- The extents of the first `k` of equally long pieces. -/
theorem cat_pre {α : Type} {n c : Nat} (f : Fin n → (s : Shape) × (s.Idx → α)) (tl : List ((s : Shape) × (s.Idx → α)))
    (g : Shape → Nat) (hg : ∀ i, g (f i).1 = c) (k : Nat) (hk : k ≤ n) :
    ((((((fins n).map f ++ tl).take k).map (·.1)).map g)).sum = k * c := by
  have e : ∀ l : List (Fin n), ((l.map f).map (·.1)).map g = List.replicate l.length c := by
    intro l
    induction l with
    | nil => rfl
    | cons i l ih => simp only [List.map_cons, List.length_cons, List.replicate_succ, hg] at ih ⊢; rw [ih]
  rw [fins_eq, List.take_append_of_le_length (by simpa using hk), ← List.map_take, e, List.sum_replicate, List.length_take,
    List.length_finRange, min_eq_left hk, smul_eq_mul]

theorem cat_get {α : Type} {n : Nat} (f : Fin n → (s : Shape) × (s.Idx → α)) (tl : List ((s : Shape) × (s.Idx → α)))
    (k : Fin n) (hk : k.val < ((fins n).map f ++ tl).length) : ((fins n).map f ++ tl)[k.val] = f k := by
  rw [List.getElem_append_left (by simp [fins_eq]), List.getElem_map]
  simp [fins_eq]

/-- A read of a concatenation of equally high pieces along the rows. -/
theorem concat_rows {α : Type} {R N n K : Nat} (f : Fin K → (⟨2, ![n, N]⟩ : Shape).Idx → α) (tl : List ((s : Shape) × (s.Idx → α)))
    (h) (k : Fin K) (i : Fin n) (l : Fin N) (r : Fin R) (hr : k.val * n + i.val = r.val) :
    concatenate ⟨2, ![R, N]⟩ 0 ((fins K).map (fun k => (⟨⟨2, ![n, N]⟩, f k⟩ : (s : Shape) × (s.Idx → α))) ++ tl) h (ix2 r l) = f k (ix2 i l) := by
  refine concatenate_apply_piece (0 : Fin 2) _ h (ix2 r l) k.val ?_ _ (f k) (cat_get (fun k => (⟨_, f k⟩ : (s : Shape) × (s.Idx → α))) _ _ _) rfl (k.val * n)
    (cat_pre (fun k => (⟨⟨2, ![n, N]⟩, f k⟩ : (s : Shape) × (s.Idx → α))) _ _ (fun _ => rfl) _ k.isLt.le) (ix2 i l) ?_ ?_
  · simp [fins_eq]; omega
  rotate_left
  · exact hr
  intro b hb
  fin_cases b
  · exact absurd rfl hb
  · rfl

/-- A read of the last piece of such a concatenation. -/
theorem concat_rows_tl {α : Type} {R N n K m : Nat} (f : Fin K → (⟨2, ![n, N]⟩ : Shape).Idx → α) (tl : (⟨2, ![m, N]⟩ : Shape).Idx → α)
    (h) (i : Fin m) (l : Fin N) (r : Fin R) (hr : K * n + i.val = r.val) :
    concatenate ⟨2, ![R, N]⟩ 0 ((fins K).map (fun k => (⟨⟨2, ![n, N]⟩, f k⟩ : (s : Shape) × (s.Idx → α))) ++
      [(⟨⟨2, ![m, N]⟩, tl⟩ : (s : Shape) × (s.Idx → α))]) h (ix2 r l) = tl (ix2 i l) := by
  refine concatenate_apply_piece (0 : Fin 2) _ h (ix2 r l) K ?_ _ tl ?_ rfl (K * n)
    (cat_pre (fun k => (⟨⟨2, ![n, N]⟩, f k⟩ : (s : Shape) × (s.Idx → α))) _ _ (fun _ => rfl) _ le_rfl) (ix2 i l) ?_ ?_
  · simp [fins_eq]
  rotate_left 2
  · exact hr
  · rw [List.getElem_append_right (by simp [fins_eq])]
    simp [fins_eq]
  intro b hb
  fin_cases b
  · exact absurd rfl hb
  · rfl

/-- A read of a concatenation of equally wide pieces along the columns. -/
theorem concat_cols {α : Type} {R N n K : Nat} (f : Fin K → (⟨2, ![R, n]⟩ : Shape).Idx → α) (tl : List ((s : Shape) × (s.Idx → α)))
    (h) (k : Fin K) (r : Fin R) (i : Fin n) (l : Fin N) (hr : k.val * n + i.val = l.val) :
    concatenate ⟨2, ![R, N]⟩ 1 ((fins K).map (fun k => (⟨⟨2, ![R, n]⟩, f k⟩ : (s : Shape) × (s.Idx → α))) ++ tl) h (ix2 r l) = f k (ix2 r i) := by
  refine concatenate_apply_piece (1 : Fin 2) _ h (ix2 r l) k.val ?_ _ (f k) (cat_get (fun k => (⟨_, f k⟩ : (s : Shape) × (s.Idx → α))) _ _ _) rfl (k.val * n)
    (cat_pre (fun k => (⟨⟨2, ![R, n]⟩, f k⟩ : (s : Shape) × (s.Idx → α))) _ _ (fun _ => rfl) _ k.isLt.le) (ix2 r i) ?_ ?_
  · simp [fins_eq]; omega
  rotate_left
  · exact hr
  intro b hb
  fin_cases b
  · rfl
  · exact absurd rfl hb

theorem ldPiece_spec (hz : -128 ≤ z.toInt ∧ z.toInt ≤ 127) (W : Fin 7 → IVec S1x1x24x128 32) (lt : Fin 10) (par : Fin 2)
    (hW : ∀ ho g l, W ho (ix4 0 0 g l) = wordN x z 0 lt.val ((6 + g.val) * 8 + ho.val) l.val) (i : S1x176x128.Idx) :
    (ldPiece (F := Ideal) W lt par).2 i = ldF x z ((ldPiece (F := Ideal) W lt par).1.emb i) := by
  obtain ⟨r, l, rfl⟩ : ∃ (r : Fin 176) (l : Fin 128), i = ix3 0 r l := by
    refine ⟨i 1, i 2, ?_⟩
    have h0 : (i 0).val < 1 := (i 0).isLt
    funext k; apply Fin.ext; fin_cases k
    · show (i 0).val = 0; omega
    · rfl
    · rfl
  show _ = ldN x z (par.val + 1 * 0) (0 + 1 * r.val) (lt.val * 128 + 1 * l.val)
  unfold ldN
  rw [chanCol_eq l.isLt]
  refine Eq.trans (b := concatenate S176x128 0
    (((fins 7).map fun ho => (⟨S24x128, ldRow (F := Ideal) (W ho) par⟩ : (s : Shape) × (s.Idx → Ideal .f32))) ++
        [(⟨S8x128, broadcast S8x128 (Scalar.ofBits .f32 0x00000000#32)⟩ : (s : Shape) × (s.Idx → Ideal .f32))])
      concatenates_S24x128_S24x128_S24x128_S24x128_S24x128_S24x128_S24x128_S8x128_S176x128_d0 (ix2 r l)) ?_ ?_
  · unfold ldPiece
    dsimp only
    generalize concatenate S176x128 0 _ _ = v
    pointwise
  rcases lt_or_ge r.val 168 with hr | hr
  · rw [if_pos (by omega)]
    refine (concat_rows (fun ho => ldRow (F := Ideal) (W ho) par) _ _ ⟨r.val / 24, by omega⟩ ⟨r.val % 24, by omega⟩ l r
      (show r.val / 24 * 24 + r.val % 24 = r.val by omega)).trans ?_
    rw [ldRow_apply x z hz (W ⟨r.val / 24, by omega⟩) lt.val (r.val / 24) par (by omega) (fun g l => hW _ g l)]
    simp only [Nat.zero_add, Nat.one_mul, Nat.mul_zero, Nat.add_zero]
  · rw [if_neg (by omega)]
    exact (concat_rows_tl (fun ho => ldRow (F := Ideal) (W ho) par) _ _ ⟨r.val - 168, by omega⟩ l r
      (show 7 * 24 + (r.val - 168) = r.val by omega)).trans Ideal.ofBits_zero_f32

theorem ld_canon (hz : -128 ≤ z.toInt ∧ z.toInt ≤ 127) (W : Fin 10 → Fin 7 → IVec S1x1x24x128 32)
    (hW : ∀ lt ho g l, W lt ho (ix4 0 0 g l) = wordN x z 0 lt.val ((6 + g.val) * 8 + ho.val) l.val) (y : S2x176x1280.Idx) :
    View.canon (ldModel (F := Ideal) W) y = ldF x z y := by
  refine canon_eq (e := .bf16) (ldF x z) y _ ?_ ?_
  · intro p hp i
    simp only [ldModel, List.mem_reverse, List.mem_flatMap, List.mem_map] at hp
    obtain ⟨lt, -, par, -, rfl⟩ := hp
    exact ldPiece_spec x z hz _ lt par (fun ho g l => hW _ _ _ _) i
  · have h0 : (y 0).val < 2 := (y 0).isLt
    have h1 : (y 1).val < 176 := (y 1).isLt
    have h2 : (y 2).val < 1280 := (y 2).isLt
    simp only [ldModel, List.mem_reverse, List.mem_flatMap, List.mem_map]
    refine ⟨_, ⟨⟨(y 2).val / 128, by omega⟩, mem_fins _, ⟨(y 0).val, h0⟩, mem_fins _, rfl⟩,
      (ix3 0 (y 1) ⟨(y 2).val % 128, by omega⟩ : S1x176x128.Idx), ?_⟩
    funext k
    apply Fin.ext
    fin_cases k
    · show (y 0).val + 1 * 0 = (y 0).val; omega
    · show 0 + 1 * (y 1).val = (y 1).val; omega
    · show (y 2).val / 128 * 128 + 1 * ((y 2).val % 128) = (y 2).val; omega

theorem ld2Piece_spec (hz : -128 ≤ z.toInt ∧ z.toInt ≤ 127) (W : Fin 7 → IVec S1x1x24x128 32) (lt : Fin 10)
    (hW : ∀ ho g l, W ho (ix4 0 0 g l) = wordN x z 0 lt.val ((6 + g.val) * 8 + ho.val) l.val) (i : S144x128.Idx) :
    (ld2Piece (F := Ideal) W lt).2 i = ld2F x z ((ld2Piece (F := Ideal) W lt).1.emb i) := by
  obtain ⟨r, l, rfl⟩ : ∃ (r : Fin 144) (l : Fin 128), i = ix2 r l := ⟨i 0, i 1, by funext k; fin_cases k <;> rfl⟩
  show _ = ld2N x z (0 + 1 * r.val) (lt.val * 128 + 1 * l.val)
  unfold ld2N
  rw [chanCol_eq l.isLt]
  refine Eq.trans (b := concatenate S144x128 0
    ((fins 6).map fun ho => (⟨S24x128, ldRow (F := Ideal) (W ho.succ) 0⟩ : (s : Shape) × (s.Idx → Ideal .f32)))
      concatenates_S24x128_S24x128_S24x128_S24x128_S24x128_S24x128_S144x128_d0 (ix2 r l)) ?_ ?_
  · unfold ld2Piece
    dsimp only
    generalize concatenate S144x128 0 _ _ = v
    pointwise
  refine (concat_rows (fun ho => ldRow (F := Ideal) (W ho.succ) 0) [] _ ⟨r.val / 24, by omega⟩ ⟨r.val % 24, by omega⟩ l r
      (show r.val / 24 * 24 + r.val % 24 = r.val by omega)).trans ?_
  rw [ldRow_apply x z hz (W (Fin.succ ⟨r.val / 24, by omega⟩)) lt.val (r.val / 24 + 1) 0 (by omega) (fun g l => hW _ g l)]
  simp only [Nat.zero_add, Nat.one_mul]
  rfl

theorem ld2_canon (hz : -128 ≤ z.toInt ∧ z.toInt ≤ 127) (W : Fin 10 → Fin 7 → IVec S1x1x24x128 32)
    (hW : ∀ lt ho g l, W lt ho (ix4 0 0 g l) = wordN x z 0 lt.val ((6 + g.val) * 8 + ho.val) l.val) (y : S144x1280.Idx) :
    View.canon (ld2Model (F := Ideal) W) y = ld2F x z y := by
  refine canon_eq (e := .bf16) (ld2F x z) y _ ?_ ?_
  · intro p hp i
    simp only [ld2Model, List.mem_reverse, List.mem_map] at hp
    obtain ⟨lt, -, rfl⟩ := hp
    exact ld2Piece_spec x z hz _ lt (fun ho g l => hW _ _ _ _) i
  · have h0 : (y 0).val < 144 := (y 0).isLt
    have h1 : (y 1).val < 1280 := (y 1).isLt
    simp only [ld2Model, List.mem_reverse, List.mem_map]
    refine ⟨_, ⟨⟨(y 1).val / 128, by omega⟩, mem_fins _, rfl⟩, (ix2 (y 0) ⟨(y 1).val % 128, by omega⟩ : S144x128.Idx), ?_⟩
    funext k
    apply Fin.ext
    fin_cases k
    · show 0 + 1 * (y 0).val = (y 0).val; omega
    · show (y 1).val / 128 * 128 + 1 * ((y 1).val % 128) = (y 1).val; omega

end Cert.Conv
-- ==== Proof.V4.lean ====
module

public import proofs.«01_k».proof.Proof.V3

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

/-- The codes of the two nibbles of a packed byte: the signed nibble plus eight. -/
def loByte (b : BitVec 8) : BitVec 8 := (b ^^^ 0x88#8) &&& 0x0F#8
def hiByte (b : BitVec 8) : BitVec 8 := ((b ^^^ 0x88#8) >>> 4) &&& 0x0F#8

theorem srcIdx_ix2 {R Q N v w : Nat} (h : Shape.Bitcasts ⟨2, ![R, N]⟩ v ⟨2, ![Q, N]⟩ w) (r : Fin Q) (c : Fin N) (p : Nat) (hp) (hp' : p < R) :
    h.srcIdx (ix2 r c) p hp = ix2 ⟨p, hp'⟩ c := by
  funext a
  apply Fin.ext
  fin_cases a
  · exact Shape.Bitcasts.srcIdx_row _ _ _ _ _ rfl
  · exact Shape.Bitcasts.srcIdx_other _ _ _ _ _ (show ¬ (1 + 2 = 2) by decide)

section Bytes
variable {R Q N : Nat} (w : IVec ⟨2, ![R, N]⟩ 8) (h : Shape.Bitcasts ⟨2, ![R, N]⟩ 8 ⟨2, ![Q, N]⟩ 32)
  (h' : Shape.Bitcasts ⟨2, ![Q, N]⟩ 32 ⟨2, ![R, N]⟩ 8)

/-- A bit of a byte, read from the word that holds it. -/
theorem word_bit (r : Fin R) (c : Fin N) (q e : Nat) (hqe : q + e < 8) (hp) :
    (bitcast ⟨2, ![Q, N]⟩ 32 w h (h'.srcIdx (ix2 r c) ((r.val * 8 + q) / 32) hp)).getLsbD ((r.val * 8 + q) % 32 + e) =
      (w (ix2 r c)).getLsbD (q + e) := by
  have hQ : (r.val * 8 + q) / 32 < Q := hp 0 rfl
  have h32 : (r.val * 8 + q) % 32 + e < 32 := by omega
  rw [srcIdx_ix2 h' r c _ hp hQ, bitcast_getLsbD w h _ _ h32 (by decide)]
  have e1 : ((r.val * 8 + q) / 32 * 32 + ((r.val * 8 + q) % 32 + e)) / 8 = r.val := by omega
  have e2 : ((r.val * 8 + q) / 32 * 32 + ((r.val * 8 + q) % 32 + e)) % 8 = q + e := by omega
  refine (congrArg₂ (fun i k => (w i).getLsbD k) (srcIdx_ix2 h _ c _ _ (by
    show ((r.val * 8 + q) / 32 * 32 + ((r.val * 8 + q) % 32 + e)) / 8 < R
    rw [e1]; exact r.isLt)) e2).trans ?_
  congr 2
  exact congrArg (fun a => ix2 a c) (Fin.ext e1)

theorem mask88 : ∀ k : Fin 32, (2290649224#32).getLsbD k.val = (0x88#8).getLsbD (k.val % 8) := by decide
theorem mask0F : ∀ k : Fin 32, (252645135#32).getLsbD k.val = (0x0F#8).getLsbD (k.val % 8) := by decide

theorem lo_bytes (r : Fin R) (c : Fin N) :
    bitcast ⟨2, ![R, N]⟩ 8 (andi (flipped w h) (broadcast ⟨2, ![Q, N]⟩ 252645135#32)) h' (ix2 r c) = loByte (w (ix2 r c)) := by
  refine BitVec.eq_of_getLsbD_eq fun q hq => ?_
  rw [bitcast_getLsbD _ h' _ q hq (by decide)]
  have hk : (r.val * 8 + q) % 32 < 32 := Nat.mod_lt _ (by decide)
  have hb := word_bit w h h' r c q 0 (by omega) (fun a ha => by
    have := h'.pos_lt (ix2 r c) q hq a ha
    exact (Nat.div_lt_iff_lt_mul (by decide)).2 this)
  show ((bitcast ⟨2, ![Q, N]⟩ 32 w h (h'.srcIdx (ix2 r c) ((r.val * 8 + q) / 32) _) ^^^ 2290649224#32) &&& 252645135#32).getLsbD
    ((r.val * 8 + q) % 32) = _
  rw [BitVec.getLsbD_and, BitVec.getLsbD_xor, mask88 ⟨_, hk⟩, mask0F ⟨_, hk⟩]
  simp only [Nat.add_zero] at hb
  rw [hb]
  unfold loByte
  rw [BitVec.getLsbD_and, BitVec.getLsbD_xor, show (r.val * 8 + q) % 32 % 8 = q by omega]

theorem hi_bytes (r : Fin R) (c : Fin N) :
    bitcast ⟨2, ![R, N]⟩ 8 (andi (shrsi (flipped w h) (broadcast ⟨2, ![Q, N]⟩ 4#32)) (broadcast ⟨2, ![Q, N]⟩ 252645135#32)) h' (ix2 r c) =
      hiByte (w (ix2 r c)) := by
  refine BitVec.eq_of_getLsbD_eq fun q hq => ?_
  rw [bitcast_getLsbD _ h' _ q hq (by decide)]
  have hk : (r.val * 8 + q) % 32 < 32 := Nat.mod_lt _ (by decide)
  show ((bitcast ⟨2, ![Q, N]⟩ 32 w h (h'.srcIdx (ix2 r c) ((r.val * 8 + q) / 32) _) ^^^ 2290649224#32).sshiftRight 4 &&& 252645135#32).getLsbD
    ((r.val * 8 + q) % 32) = _
  unfold hiByte
  rw [BitVec.getLsbD_and, mask0F ⟨_, hk⟩, BitVec.getLsbD_and, show (r.val * 8 + q) % 32 % 8 = q by omega]
  rcases lt_or_ge q 4 with h4 | h4
  · have hb := word_bit w h h' r c q 4 (by omega) (fun a ha => by
      have := h'.pos_lt (ix2 r c) q hq a ha
      exact (Nat.div_lt_iff_lt_mul (by decide)).2 this)
    have hk4 : (r.val * 8 + q) % 32 + 4 < 32 := by omega
    rw [BitVec.getLsbD_sshiftRight, if_pos (by omega), BitVec.getLsbD_ushiftRight, BitVec.getLsbD_xor, BitVec.getLsbD_xor,
      Nat.add_comm 4, Nat.add_comm 4, hb, mask88 ⟨_, hk4⟩, show ((r.val * 8 + q) % 32 + 4) % 8 = q + 4 by omega]
    rw [show decide (32 ≤ (r.val * 8 + q) % 32) = false from decide_eq_false (by omega), Bool.not_false, Bool.true_and]
  · have : (0x0F#8).getLsbD q = false := by
      interval_cases q <;> rfl
    rw [this, Bool.and_false, Bool.and_false]

end Bytes

/-- A code below sixteen as an fp8 number is the code over 512. -/
theorem fp8_code (b : BitVec 8) (hb : b.toNat < 16) : Ideal.ofBits .fp8e4m3 b = (((b.toNat : ℝ) / 512 : ℝ) : EReal) := by
  obtain ⟨k, hk, rfl⟩ : ∃ k, k < 16 ∧ b = BitVec.ofNat 8 k := ⟨b.toNat, hb, by simp⟩
  interval_cases k <;> simp [Ideal.ofBits, Ideal.e4m3fn, -EReal.coe_mul] <;> norm_num

theorem loByte_lt (b : BitVec 8) : (loByte b).toNat < 16 := by
  unfold loByte; rw [BitVec.toNat_and]; exact Nat.lt_succ_of_le Nat.and_le_right
theorem hiByte_lt (b : BitVec 8) : (hiByte b).toNat < 16 := by
  unfold hiByte; rw [BitVec.toNat_and]; exact Nat.lt_succ_of_le Nat.and_le_right

/-- The code of the low (`0`) or high nibble. -/
def nibCode (half : Nat) (b : BitVec 8) : Nat := if half = 0 then (loByte b).toNat else (hiByte b).toNat

theorem nibCode_lt (half : Nat) (b : BitVec 8) : nibCode half b < 16 := by
  unfold nibCode; split
  · exact loByte_lt b
  · exact hiByte_lt b

/-- A code as a number. -/
def coded (v : Nat) : EReal := (((v : ℝ) / 512 : ℝ) : EReal)

/-- Low or high nibbles as a function of the half. -/
def nibOf {s t : Shape} (half : Nat) (w : IVec s 8) (h : s.Bitcasts 8 t 32) (h' : t.Bitcasts 32 s 8) : FVec Ideal s .fp8e4m3 :=
  if half = 0 then loNib w h h' else hiNib w h h'

theorem nibOf_apply {R Q N : Nat} (half : Nat) (w : IVec ⟨2, ![R, N]⟩ 8) (h : Shape.Bitcasts ⟨2, ![R, N]⟩ 8 ⟨2, ![Q, N]⟩ 32)
    (h' : Shape.Bitcasts ⟨2, ![Q, N]⟩ 32 ⟨2, ![R, N]⟩ 8) (r : Fin R) (c : Fin N) :
    nibOf half w h h' (ix2 r c) = coded (nibCode half (w (ix2 r c))) := by
  unfold nibOf nibCode
  split
  · exact (congrArg (Ideal.ofBits .fp8e4m3) (lo_bytes w h h' r c)).trans (fp8_code _ (loByte_lt _))
  · exact (congrArg (Ideal.ofBits .fp8e4m3) (hi_bytes w h h' r c)).trans (fp8_code _ (hiByte_lt _))

theorem rhsFull_apply (w : Fin 5 → IVec S1x1x256x128 8) (n : Fin 256) (c : Fin 1280) :
    rhsFull (F := Ideal) w (ix2 n c) = coded (nibCode (c.val / 128 % 2) (w ⟨c.val / 256, by omega⟩ (ix4 0 0 n ⟨c.val % 128, by omega⟩))) := by
  have e : rhsFull (F := Ideal) w = concatenate S256x1280 1 ((fins 10).map (fun k => (⟨S256x128, nibOf (k.val % 2)
      (shapeCast S256x128 (w ⟨k.val / 2, by omega⟩) shapeCasts_S1x1x256x128_S256x128 : IVec S256x128 8)
      bitcasts_S256x128_w8_S64x128_w32 bitcasts_S64x128_w32_S256x128_w8⟩ : (s : Shape) × (s.Idx → Ideal .fp8e4m3))))
      concatenates_S256x128_S256x128_S256x128_S256x128_S256x128_S256x128_S256x128_S256x128_S256x128_S256x128_S256x1280_d1 := rfl
  rw [e]
  refine (concat_cols (fun k : Fin 10 => nibOf (k.val % 2)
      (shapeCast S256x128 (w ⟨k.val / 2, by omega⟩) shapeCasts_S1x1x256x128_S256x128 : IVec S256x128 8)
      bitcasts_S256x128_w8_S64x128_w32 bitcasts_S64x128_w32_S256x128_w8) [] _ ⟨c.val / 128, by omega⟩ n ⟨c.val % 128, by omega⟩ c
      (show c.val / 128 * 128 + c.val % 128 = c.val by omega)).trans ?_
  rw [nibOf_apply]
  pointwise
  have e2 : (⟨c.val / 128 / 2, by omega⟩ : Fin 5) = ⟨c.val / 256, by omega⟩ := Fin.ext (show c.val / 128 / 2 = c.val / 256 by omega)
  rw [e2]

/-- The weight rows of the last N tile's right operand. -/
def rhsTop (w : Fin 5 → IVec S1x1x128x128 8) : FVec Ideal S128x1280 .fp8e4m3 :=
  concatenate S128x1280 1 ((fins 10).map (fun k => (⟨S128x128, nibOf (k.val % 2)
      (shapeCast S128x128 (w ⟨k.val / 2, by omega⟩) shapeCasts_S1x1x128x128_S128x128 : IVec S128x128 8)
      bitcasts_S128x128_w8_S32x128_w32 bitcasts_S32x128_w32_S128x128_w8⟩ : (s : Shape) × (s.Idx → Ideal .fp8e4m3))))
      concatenates_S128x128_S128x128_S128x128_S128x128_S128x128_S128x128_S128x128_S128x128_S128x128_S128x128_S128x1280_d1

def rhsOnes : FVec Ideal S128x1280 .fp8e4m3 :=
  bitcastToFloat .fp8e4m3 (bitcast S128x1280 8 (broadcast S32x1280 16843009#32) bitcasts_S32x1280_w32_S128x1280_w8)

theorem rhsTop_apply (w : Fin 5 → IVec S1x1x128x128 8) (n : Fin 128) (c : Fin 1280) :
    rhsTop w (ix2 n c) = coded (nibCode (c.val / 128 % 2) (w ⟨c.val / 256, by omega⟩ (ix4 0 0 n ⟨c.val % 128, by omega⟩))) := by
  refine (concat_cols (fun k : Fin 10 => nibOf (k.val % 2)
      (shapeCast S128x128 (w ⟨k.val / 2, by omega⟩) shapeCasts_S1x1x128x128_S128x128 : IVec S128x128 8)
      bitcasts_S128x128_w8_S32x128_w32 bitcasts_S32x128_w32_S128x128_w8) [] _ ⟨c.val / 128, by omega⟩ n ⟨c.val % 128, by omega⟩ c
      (show c.val / 128 * 128 + c.val % 128 = c.val by omega)).trans ?_
  rw [nibOf_apply]
  pointwise
  have e2 : (⟨c.val / 128 / 2, by omega⟩ : Fin 5) = ⟨c.val / 256, by omega⟩ := Fin.ext (show c.val / 128 / 2 = c.val / 256 by omega)
  rw [e2]

theorem mask01 : ∀ k : Fin 32, (16843009#32).getLsbD k.val = (0x01#8).getLsbD (k.val % 8) := by decide

theorem rhsOnes_apply (n : Fin 128) (c : Fin 1280) : rhsOnes (ix2 n c) = coded 1 := by
  have e : bitcast S128x1280 8 (broadcast S32x1280 16843009#32) bitcasts_S32x1280_w32_S128x1280_w8 (ix2 n c) = 0x01#8 := by
    refine BitVec.eq_of_getLsbD_eq fun q hq => ?_
    rw [bitcast_getLsbD _ bitcasts_S32x1280_w32_S128x1280_w8 _ q hq (by decide)]
    show (16843009#32).getLsbD ((n.val * 8 + q) % 32) = _
    rw [mask01 ⟨(n.val * 8 + q) % 32, by omega⟩]
    show (0x01#8).getLsbD ((n.val * 8 + q) % 32 % 8) = _
    rw [show (n.val * 8 + q) % 32 % 8 = q by omega]
  exact (congrArg (Ideal.ofBits .fp8e4m3) e).trans (fp8_code _ (by decide))

theorem rhsLast_top (w : Fin 5 → IVec S1x1x128x128 8) (n : Fin 128) (r : Fin 256) (c : Fin 1280) (hr : n.val = r.val) :
    rhsLast (F := Ideal) w (ix2 r c) = rhsTop w (ix2 n c) :=
  concat_rows (fun k : Fin 2 => if k.val = 0 then rhsTop w else rhsOnes) [] concatenates_S128x1280_S128x1280_S256x1280_d0 0 n c r
    (show 0 * 128 + n.val = r.val by omega)

theorem rhsLast_ones (w : Fin 5 → IVec S1x1x128x128 8) (n : Fin 128) (r : Fin 256) (c : Fin 1280) (hr : 128 + n.val = r.val) :
    rhsLast (F := Ideal) w (ix2 r c) = rhsOnes (ix2 n c) :=
  concat_rows (fun k : Fin 2 => if k.val = 0 then rhsTop w else rhsOnes) [] concatenates_S128x1280_S128x1280_S256x1280_d0 1 n c r
    (show 1 * 128 + n.val = r.val by omega)

end Cert.Conv
-- ==== Proof.V5.lean ====
module

public import proofs.«01_k».proof.Proof.V4

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

theorem coe_sum_int {n : Nat} (f : Fin n → ℤ) : (∑ k, (((f k : ℤ) : ℝ) : EReal)) = (((∑ k, f k : ℤ) : ℝ) : EReal) := by
  induction n with
  | zero => simp
  | succ n ih => rw [Fin.sum_univ_castSucc, Fin.sum_univ_castSucc, ih, Int.cast_add, EReal.coe_add]

theorem scaled_mul_coded (a : ℤ) (v : Nat) : scaled a * coded v = (((a * v : ℤ) : ℝ) : EReal) := by
  unfold scaled coded
  rw [← EReal.coe_mul]
  congr 1
  push_cast
  ring

theorem dot_int {n : Nat} (a : Fin n → ℤ) (v : Fin n → Nat) :
    (∑ k, scaled (a k) * coded (v k)) = (((∑ k, a k * v k : ℤ) : ℝ) : EReal) := by
  rw [← coe_sum_int]
  exact Finset.sum_congr rfl fun k _ => scaled_mul_coded _ _

theorem sum_bound {n : Nat} (a : Fin n → ℤ) (v : Fin n → Nat) (ha : ∀ k, -256 ≤ a k ∧ a k ≤ 255) (hv : ∀ k, v k < 16) :
    -(4096 * (n : ℤ)) ≤ ∑ k, a k * v k ∧ ∑ k, a k * v k ≤ 4096 * (n : ℤ) := by
  induction n with
  | zero => simp
  | succ n ih =>
    have h := ih (fun k => a k.castSucc) (fun k => v k.castSucc) (fun k => ha _) (fun k => hv _)
    have h1 := ha (Fin.last n)
    have h2 := hv (Fin.last n)
    have h3 : a (Fin.last n) * v (Fin.last n) ≤ 4096 := by nlinarith
    have h4 : -4096 ≤ a (Fin.last n) * v (Fin.last n) := by nlinarith
    rw [Fin.sum_univ_castSucc]
    push_cast
    constructor <;> linarith [h.1, h.2]

theorem dotM_apply (l : FVec Ideal S224x1280 .bf16) (r : FVec Ideal S256x1280 .fp8e4m3) (m : Fin 224) (n : Fin 256) :
    dotM l r (ix2 m n) = ∑ k : Fin 1280, (l (ix2 m k) : EReal) * (r (ix2 n k) : EReal) := by
  unfold dotM
  pointwise

theorem dotC_apply (l : FVec Ideal S192x1280 .bf16) (r : FVec Ideal S256x1280 .fp8e4m3) (m : Fin 192) (n : Fin 256) :
    dotC l r (ix2 m n) = ∑ k : Fin 1280, (l (ix2 m k) : EReal) * (r (ix2 n k) : EReal) := by
  unfold dotC
  pointwise

theorem dotD_apply (l : FVec Ideal S176x1280 .bf16) (r : FVec Ideal S256x1280 .fp8e4m3) (m : Fin 176) (n : Fin 256) :
    dotD l r (ix2 m n) = ∑ k : Fin 1280, (l (ix2 m k) : EReal) * (r (ix2 n k) : EReal) := by
  unfold dotD
  pointwise

theorem dotE_apply (l : FVec Ideal S144x1280 .bf16) (r : FVec Ideal S256x1280 .fp8e4m3) (m : Fin 144) (n : Fin 256) :
    dotE l r (ix2 m n) = ∑ k : Fin 1280, (l (ix2 m k) : EReal) * (r (ix2 n k) : EReal) := by
  unfold dotE
  pointwise

variable (x : S6x10x14x1280.Idx → BitVec 8) (z : BitVec 32)

/-- The left operands hold the image. -/
structure LhsSpec (L : Lhs Ideal) : Prop where
  m : ∀ (p wp : Fin 2) r c, L.m p wp (ix2 r c) = lmN x z p.val wp.val r.val c.val
  c : ∀ (wp : Fin 2) r c, L.c wp (ix2 r c) = lmN x z 0 wp.val (32 + r.val) c.val
  d : ∀ (p : Fin 2) r c, L.d p (ix2 r c) = ldN x z p.val r.val c.val
  e : ∀ r c, L.e (ix2 r c) = ld2N x z r.val c.val

/-- The right operands hold codes. -/
structure RhsSpec (r : Fin 3 → Fin 3 → FVec Ideal S256x1280 .fp8e4m3) (V : Fin 3 → Fin 3 → Fin 256 → Fin 1280 → Nat) : Prop where
  eq : ∀ kh kw n c, r kh kw (ix2 n c) = coded (V kh kw n c)
  lt : ∀ kh kw n c, V kh kw n c < 16

/-- The image number tap `(kh, kw)` of group `g` at output row `ho` reads in column `c`. -/
def tapIn (kh kw ho g c : Nat) : ℤ := left x z (kw % 2) (g + 6 * (kw / 2)) (2 * ho + kh) (chanCol c)

/-- One tap's sum over the channels. -/
def tap (V : Fin 3 → Fin 3 → Fin 256 → Fin 1280 → Nat) (kh kw : Fin 3) (ho g : Nat) (n : Fin 256) : ℤ :=
  ∑ c : Fin 1280, tapIn x z kh.val kw.val ho g c.val * (V kh kw n c : ℤ)

variable {x z} {L : Lhs Ideal} {r : Fin 3 → Fin 3 → FVec Ideal S256x1280 .fp8e4m3} {V : Fin 3 → Fin 3 → Fin 256 → Fin 1280 → Nat}

theorem tap_bound (hz : -128 ≤ z.toInt ∧ z.toInt ≤ 127) (hR : RhsSpec r V) (kh kw : Fin 3) (ho g : Nat) (n : Fin 256) :
    -5242880 ≤ tap x z V kh kw ho g n ∧ tap x z V kh kw ho g n ≤ 5242880 := by
  have h := sum_bound (fun c : Fin 1280 => tapIn x z kh.val kw.val ho g c.val) (V kh kw n) (fun c => left_bound x z hz _ _ _ _) (hR.lt kh kw n)
  norm_num at h
  exact h

theorem tap_none {kh kw : Fin 3} {ho g : Nat} {n : Fin 256} (h : ∀ c, tapIn x z kh.val kw.val ho g c = 0) : tap x z V kh kw ho g n = 0 :=
  Finset.sum_eq_zero fun c _ => by rw [h, zero_mul]

theorem tap_eq (kh kw : Fin 3) (ho g : Nat) (n : Fin 256) (l : Fin 1280 → EReal) (rr : Fin 1280 → EReal)
    (hl : ∀ c, l c = scaled (tapIn x z kh.val kw.val ho g c.val)) (hr : ∀ c, rr c = coded (V kh kw n c)) :
    (∑ c : Fin 1280, l c * rr c) = (((tap x z V kh kw ho g n : ℤ) : ℝ) : EReal) := by
  rw [tap, ← dot_int]
  exact Finset.sum_congr rfl fun c _ => by rw [hl, hr]

theorem two_taps (hz : -128 ≤ z.toInt ∧ z.toInt ≤ 127) (hR : RhsSpec r V) (kh kw kh' kw' : Fin 3) (ho g : Nat) (n : Fin 256)
    (a b : EReal) (ha : a = (((tap x z V kh kw ho g n : ℤ) : ℝ) : EReal)) (hb : b = (((tap x z V kh' kw' ho g n : ℤ) : ℝ) : EReal)) :
    FloatOps.fptosi 32 (F := Ideal) (φ := .f32) (a + b) = BitVec.ofInt 32 (tap x z V kh kw ho g n + tap x z V kh' kw' ho g n) := by
  have h1 := tap_bound (x := x) hz hR kh kw ho g n
  have h2 := tap_bound (x := x) hz hR kh' kw' ho g n
  rw [ha, hb, ← EReal.coe_add, ← Int.cast_add]
  exact fptosi_int 32 _ (by norm_num; omega) (by norm_num; omega)

theorem accM_apply (hz : -128 ≤ z.toInt ∧ z.toInt ≤ 127) (hL : LhsSpec x z L) (hR : RhsSpec r V) (kh : Fin 2) (ho : Fin 7) (g : Fin 32) (n : Fin 256)
    (m : Fin 224) (hm : m.val = ho.val * 32 + g.val) :
    accM L r kh (ix2 m n) = BitVec.ofInt 32 (tap x z V kh.castSucc 0 ho.val g.val n + tap x z V kh.castSucc 1 ho.val g.val n) := by
  refine two_taps hz hR _ _ _ _ _ _ _ _ _ ((dotM_apply _ _ m n).trans (tap_eq _ _ _ _ _ _ _ (fun c => ?_) (hR.eq _ _ n)))
    ((dotM_apply _ _ m n).trans (tap_eq _ _ _ _ _ _ _ (fun c => ?_) (hR.eq _ _ n)))
  · rw [hL.m, lmN, hm, show (ho.val * 32 + g.val) % 32 = g.val by omega, show (ho.val * 32 + g.val) / 32 = ho.val by omega]; rfl
  · rw [hL.m, lmN, hm, show (ho.val * 32 + g.val) % 32 = g.val by omega, show (ho.val * 32 + g.val) / 32 = ho.val by omega]; rfl

theorem accC_apply (hz : -128 ≤ z.toInt ∧ z.toInt ≤ 127) (hL : LhsSpec x z L) (hR : RhsSpec r V) (ho : Fin 6) (g : Fin 32) (n : Fin 256)
    (m : Fin 192) (hm : m.val = ho.val * 32 + g.val) :
    accC L r (ix2 m n) = BitVec.ofInt 32 (tap x z V 2 0 ho.val g.val n + tap x z V 2 1 ho.val g.val n) := by
  refine two_taps hz hR _ _ _ _ _ _ _ _ _ ((dotC_apply _ _ m n).trans (tap_eq _ _ _ _ _ _ _ (fun c => ?_) (hR.eq _ _ n)))
    ((dotC_apply _ _ m n).trans (tap_eq _ _ _ _ _ _ _ (fun c => ?_) (hR.eq _ _ n)))
  · rw [hL.c, lmN, hm, show (32 + (ho.val * 32 + g.val)) % 32 = g.val by omega, show (32 + (ho.val * 32 + g.val)) / 32 = ho.val + 1 by omega]; rfl
  · rw [hL.c, lmN, hm, show (32 + (ho.val * 32 + g.val)) % 32 = g.val by omega, show (32 + (ho.val * 32 + g.val)) / 32 = ho.val + 1 by omega]; rfl

theorem accD_apply (hz : -128 ≤ z.toInt ∧ z.toInt ≤ 127) (hL : LhsSpec x z L) (hR : RhsSpec r V) (ho : Fin 7) (g : Fin 24) (n : Fin 256)
    (m : Fin 176) (hm : m.val = ho.val * 24 + g.val) :
    accD L r (ix2 m n) = BitVec.ofInt 32 (tap x z V 0 2 ho.val g.val n + tap x z V 1 2 ho.val g.val n) := by
  refine two_taps hz hR _ _ _ _ _ _ _ _ _ ((dotD_apply _ _ m n).trans (tap_eq _ _ _ _ _ _ _ (fun c => ?_) (hR.eq _ _ n)))
    ((dotD_apply _ _ m n).trans (tap_eq _ _ _ _ _ _ _ (fun c => ?_) (hR.eq _ _ n)))
  · rw [hL.d, ldN, hm, if_pos (by omega), show (ho.val * 24 + g.val) % 24 = g.val by omega, show (ho.val * 24 + g.val) / 24 = ho.val by omega, Nat.add_comm 6]; rfl
  · rw [hL.d, ldN, hm, if_pos (by omega), show (ho.val * 24 + g.val) % 24 = g.val by omega, show (ho.val * 24 + g.val) / 24 = ho.val by omega, Nat.add_comm 6]; rfl

theorem accE_apply (hz : -128 ≤ z.toInt ∧ z.toInt ≤ 127) (hL : LhsSpec x z L) (hR : RhsSpec r V) (ho : Fin 6) (g : Fin 24) (n : Fin 256)
    (m : Fin 144) (hm : m.val = ho.val * 24 + g.val) :
    accE L r (ix2 m n) = BitVec.ofInt 32 (tap x z V 2 2 ho.val g.val n) := by
  have h1 := tap_bound (x := x) hz hR 2 2 ho.val g.val n
  have e : dotE L.e (r 2 2) (ix2 m n) = (((tap x z V 2 2 ho.val g.val n : ℤ) : ℝ) : EReal) := by
    refine (dotE_apply _ _ m n).trans (tap_eq _ _ _ _ _ _ _ (fun c => ?_) (hR.eq _ _ n))
    rw [hL.e, ld2N, hm, show (ho.val * 24 + g.val) % 24 = g.val by omega, show (ho.val * 24 + g.val) / 24 = ho.val by omega, Nat.add_comm 6]; rfl
  exact (congrArg (FloatOps.fptosi 32 (F := Ideal) (φ := .f32)) e).trans (fptosi_int 32 _ (by norm_num; omega) (by norm_num; omega))

/-- The sum over the taps. -/
def taps (x : S6x10x14x1280.Idx → BitVec 8) (z : BitVec 32) (V : Fin 3 → Fin 3 → Fin 256 → Fin 1280 → Nat) (ho g : Nat) (n : Fin 256) : ℤ :=
  ∑ kh : Fin 3, ∑ kw : Fin 3, tap x z V kh kw ho g n

theorem tapSum_apply (hz : -128 ≤ z.toInt ∧ z.toInt ≤ 127) (hL : LhsSpec x z L) (hR : RhsSpec r V) (ho : Fin 7) (g : Fin 32) (n : Fin 256) :
    tapSum L r ho (ix2 g n) = BitVec.ofInt 32 (taps x z V ho.val g.val n) := by
  have hcol (h24 : 24 ≤ g.val) (kh : Fin 3) : tap x z V kh 2 ho.val g.val n = 0 :=
    tap_none fun c => left_none x z (show 30 ≤ g.val + 6 * (2 / 2) by omega)
  have hrow (h6 : ¬ ho.val < 6) (kw : Fin 3) : tap x z V 2 kw ho.val g.val n = 0 := by
    refine tap_none fun c => ?_
    unfold tapIn left
    split
    · unfold centred; rw [dif_neg]; intro h; have := h.2.2.1; have e : (2 : Fin 3).val = 2 := rfl; omega
    · rfl
  unfold tapSum
  split
  · next h6 =>
    pointwise
    rw [accM_apply hz hL hR 0 ho g n _ rfl, accM_apply hz hL hR 1 ho g n _ rfl, accC_apply hz hL hR ⟨ho.val, h6⟩ g n _ rfl]
    split
    · next h24 =>
      rw [accD_apply hz hL hR ho ⟨g.val, h24⟩ n _ rfl, accE_apply hz hL hR ⟨ho.val, h6⟩ ⟨g.val, h24⟩ n _ rfl]
      simp only [IntOp.addi, ← BitVec.ofInt_add]
      congr 1
      simp only [taps, Fin.sum_univ_three]
      rw [show (Fin.castSucc (0 : Fin 2) : Fin 3) = 0 from rfl, show (Fin.castSucc (1 : Fin 2) : Fin 3) = 1 from rfl]
      ring
    · next h24 =>
      rw [show (0#32) = BitVec.ofInt 32 0 from rfl]
      simp only [IntOp.addi, ← BitVec.ofInt_add]
      congr 1
      simp only [taps, Fin.sum_univ_three, hcol (by omega)]
      rw [show (Fin.castSucc (0 : Fin 2) : Fin 3) = 0 from rfl, show (Fin.castSucc (1 : Fin 2) : Fin 3) = 1 from rfl]
      ring
  · next h6 =>
    pointwise
    rw [accM_apply hz hL hR 0 ho g n _ rfl, accM_apply hz hL hR 1 ho g n _ rfl]
    split
    · next h24 =>
      rw [accD_apply hz hL hR ho ⟨g.val, h24⟩ n _ rfl]
      simp only [IntOp.addi, ← BitVec.ofInt_add]
      congr 1
      simp only [taps, Fin.sum_univ_three, hrow h6]
      rw [show (Fin.castSucc (0 : Fin 2) : Fin 3) = 0 from rfl, show (Fin.castSucc (1 : Fin 2) : Fin 3) = 1 from rfl]
      ring
    · next h24 =>
      rw [show (0#32) = BitVec.ofInt 32 0 from rfl]
      simp only [IntOp.addi, ← BitVec.ofInt_add]
      congr 1
      simp only [taps, Fin.sum_univ_three, hrow h6, hcol (by omega)]
      rw [show (Fin.castSucc (0 : Fin 2) : Fin 3) = 0 from rfl, show (Fin.castSucc (1 : Fin 2) : Fin 3) = 1 from rfl]
      ring

end Cert.Conv
-- ==== Proof.V6.lean ====
module

public import proofs.«01_k».proof.Proof.V5

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

/-- The sum over taps and channels of the image numbers of group `g` at output row `ho` times `w`. -/
def convSum (x : S6x10x14x1280.Idx → BitVec 8) (z : BitVec 32) (w : Fin 3 → Fin 3 → Fin 1280 → ℤ) (ho g : Nat) : ℤ :=
  ∑ kh : Fin 3, ∑ kw : Fin 3, ∑ c : Fin 1280, tapIn x z kh.val kw.val ho g c.val * w kh kw c

theorem convSum_sub (x : S6x10x14x1280.Idx → BitVec 8) (z : BitVec 32) (v : Fin 3 → Fin 3 → Fin 1280 → ℤ) (ho g : Nat) :
    convSum x z v ho g - 8 * convSum x z (fun _ _ _ => 1) ho g = convSum x z (fun kh kw c => v kh kw c - 8) ho g := by
  simp only [convSum, Finset.mul_sum, ← Finset.sum_sub_distrib]
  refine Finset.sum_congr rfl fun kh _ => Finset.sum_congr rfl fun kw _ => Finset.sum_congr rfl fun c _ => ?_
  ring

variable {x : S6x10x14x1280.Idx → BitVec 8} {z : BitVec 32} {L : Lhs Ideal} {r : Fin 3 → Fin 3 → FVec Ideal S256x1280 .fp8e4m3}
  {V : Fin 3 → Fin 3 → Fin 256 → Fin 1280 → Nat}

theorem tapCols_apply (hz : -128 ≤ z.toInt ∧ z.toInt ≤ 127) (hL : LhsSpec x z L) (hR : RhsSpec r V) (ho : Fin 7) (c : Fin 2) (g : Fin 32) (l : Fin 128) :
    tapCols L r ho c (ix2 g l) =
      BitVec.ofInt 32 (convSum x z (fun kh kw k => V kh kw ⟨c.val * 128 + l.val, by omega⟩ k) ho.val g.val) := by
  unfold tapCols
  pointwise
  exact tapSum_apply hz hL hR ho g _

/-! ### The row sums -/

/-- Eight times a row sum. -/
def rowN (x : S6x10x14x1280.Idx → BitVec 8) (z : BitVec 32) (ho g : Nat) : BitVec 32 :=
  BitVec.ofInt 32 (8 * convSum x z (fun _ _ _ => 1) ho g)

theorem mem_rsumModel (L : Lhs Ideal) (r : Fin 3 → Fin 3 → FVec Ideal S256x1280 .fp8e4m3) (p : View.Piece (Elt Ideal) S224x128 .i32) :
    ∀ (n : Nat) (h : n ≤ 7), p ∈ rsumModel L r n h ↔ ∃ ho : Fin 7, ho.val < n ∧ p = rsumPiece L r ho
  | 0, _ => by simp [rsumModel]
  | n + 1, h => by
    rw [rsumModel, List.mem_cons, mem_rsumModel L r p n]
    constructor
    · rintro (rfl | ⟨ho, h1, rfl⟩)
      · exact ⟨⟨n, h⟩, Nat.lt_succ_self n, rfl⟩
      · exact ⟨ho, by omega, rfl⟩
    · rintro ⟨ho, h1, rfl⟩
      rcases Nat.lt_or_ge ho.val n with h2 | h2
      · exact Or.inr ⟨ho, h2, rfl⟩
      · left; congr 1; exact Fin.ext (show ho.val = n by omega)

theorem rsum_canon (hz : -128 ≤ z.toInt ∧ z.toInt ≤ 127) (hL : LhsSpec x z L) (hR : RhsSpec r V)
    (h1 : ∀ kh kw n k, 128 ≤ n.val → V kh kw n k = 1) (n : Nat) (hn : n ≤ 7) (y : S224x128.Idx) (hy : (y 0).val / 32 < n) :
    View.canon (rsumModel L r n hn) y = rowN x z ((y 0).val / 32) ((y 0).val % 32) := by
  refine canon_eq (e := .i32) (fun y : S224x128.Idx => rowN x z ((y 0).val / 32) ((y 0).val % 32)) y _ ?_ ?_
  · intro p hp i
    obtain ⟨ho, -, rfl⟩ := (mem_rsumModel L r p n hn).1 hp
    revert i
    intro (i : S32x128.Idx)
    obtain ⟨g, l, rfl⟩ : ∃ (g : Fin 32) (l : Fin 128), i = ix2 g l := ⟨i 0, i 1, by funext k; fin_cases k <;> rfl⟩
    show _ = rowN x z ((ho.val * 32 + 1 * g.val) / 32) ((ho.val * 32 + 1 * g.val) % 32)
    rw [show (ho.val * 32 + 1 * g.val) / 32 = ho.val by omega, show (ho.val * 32 + 1 * g.val) % 32 = g.val by omega]
    refine Eq.trans (b := tapCols L r ho 1 (ix2 g l) * 8#32) ?_ ?_
    · unfold rsumPiece
      pointwise
      rfl
    · rw [tapCols_apply hz hL hR, rowN, show (8#32) = BitVec.ofInt 32 8 from rfl, ← BitVec.ofInt_mul, mul_comm]
      congr 3
      funext kh kw k
      exact congrArg _ (h1 _ _ _ _ (show 128 ≤ 1 * 128 + l.val by omega))
  · have h0 : (y 0).val < 224 := (y 0).isLt
    have hl : (y 1).val < 128 := (y 1).isLt
    refine ⟨_, (mem_rsumModel L r _ n hn).2 ⟨⟨(y 0).val / 32, by omega⟩, hy, rfl⟩, (ix2 ⟨(y 0).val % 32, by omega⟩ (y 1) : S32x128.Idx), ?_⟩
    funext k
    apply Fin.ext
    fin_cases k
    · show (y 0).val / 32 * 32 + 1 * ((y 0).val % 32) = (y 0).val; omega
    · show 0 + 1 * (y 1).val = (y 1).val; omega

/-! ### The codes -/

/-- The high word of the doubled product from 16-bit halves, with a carry for rounding. -/
def highMulS (acc mult : BitVec 32) : BitVec 32 :=
  let mh := mult.sshiftRight 16
  let ml := mult &&& 65535#32
  let ah := acc.sshiftRight 16
  let al := acc &&& 65535#32
  let t := al * mh + (al * ml) >>> 16
  let phl := ah * ml
  let c := (t &&& 65535#32) + (phl &&& 65535#32) + 16384#32
  let h := ah * mh + t.sshiftRight 16 + phl.sshiftRight 16
  2#32 * h + c.sshiftRight 15

def roundS (q shift : BitVec 32) : BitVec 32 :=
  (IntOp.shrsi .vector (q + q.sshiftRight 31) (4294967295#32 - shift) + 1#32).sshiftRight 1

/-- The output code of one element. -/
def codeS (acc mult shift zo : BitVec 32) : BitVec 32 :=
  IntOp.minsi 127#32 (IntOp.maxsi 4294967168#32 (roundS (highMulS acc mult) shift + zo))

theorem requant_apply (s rs : IVec S32x128 32) (bias mult shift : IVec S1x128 32) (zo : BitVec 32) (g : Fin 32) (l : Fin 128) :
    requant s rs bias mult shift zo (ix2 g l) =
      codeS (s (ix2 g l) - rs (ix2 g l) + bias (ix2 0 l)) (mult (ix2 0 l)) (shift (ix2 0 l)) zo := by
  unfold requant highMul roundShift
  pointwise
  rfl

/-- The code of channel `co` of group `g` at output row `ho`. -/
def codeN (x : S6x10x14x1280.Idx → BitVec 8) (z : BitVec 32) (w : Nat → Fin 3 → Fin 3 → Fin 1280 → Nat) (bias mult shift : Nat → BitVec 32)
    (zo : BitVec 32) (ho g co : Nat) : BitVec 32 :=
  codeS (BitVec.ofInt 32 (convSum x z (fun kh kw k => (w co kh kw k : ℤ) - 8) ho g) + bias co) (mult co) (shift co) zo

variable {w : Nat → Fin 3 → Fin 3 → Fin 1280 → Nat} {bf mf sf : Nat → BitVec 32} {zo : BitVec 32}

theorem ofInt_sub (a b : ℤ) : BitVec.ofInt 32 (a - b) = BitVec.ofInt 32 a - BitVec.ofInt 32 b := by
  rw [sub_eq_add_neg, BitVec.ofInt_add, BitVec.ofInt_neg, BitVec.sub_eq_add_neg]

theorem outCodes_spec (hz : -128 ≤ z.toInt ∧ z.toInt ≤ 127) (hL : LhsSpec x z L) (hR : RhsSpec r V) (RS : Fin 7 → IVec S32x128 32)
    (hRS : ∀ ho g l, RS ho (ix2 g l) = rowN x z ho.val g.val) (bias mult shift : Fin 15 → IVec S1x128 32)
    (hb : ∀ n l, bias n (ix2 0 l) = bf (n.val * 128 + l.val)) (hm : ∀ n l, mult n (ix2 0 l) = mf (n.val * 128 + l.val))
    (hs : ∀ n l, shift n (ix2 0 l) = sf (n.val * 128 + l.val)) (n : Fin 15) (c : Fin 2) (ho : Fin 7)
    (hw : ∀ kh kw (l : Fin 128) k, V kh kw ⟨c.val * 128 + l.val, by omega⟩ k = w (n.val * 128 + l.val) kh kw k) (i : S1x32x128.Idx) :
    (outCodes L r RS bias mult shift zo n c ho).2 i = (fun y : S15x224x128.Idx => codeN x z w bf mf sf zo ((y 1).val / 32) ((y 1).val % 32)
      ((y 0).val * 128 + (y 2).val)) ((outCodes L r RS bias mult shift zo n c ho).1.emb i) := by
  obtain ⟨g, l, rfl⟩ : ∃ (g : Fin 32) (l : Fin 128), i = ix3 0 g l := by
    refine ⟨i 1, i 2, ?_⟩
    have h0 : (i 0).val < 1 := (i 0).isLt
    funext k; apply Fin.ext; fin_cases k
    · show (i 0).val = 0; omega
    · rfl
    · rfl
  show _ = codeN x z w bf mf sf zo ((ho.val * 32 + 1 * g.val) / 32) ((ho.val * 32 + 1 * g.val) % 32) ((n.val + 1 * 0) * 128 + (0 + 1 * l.val))
  rw [show (ho.val * 32 + 1 * g.val) / 32 = ho.val by omega, show (ho.val * 32 + 1 * g.val) % 32 = g.val by omega,
    show (n.val + 1 * 0) * 128 + (0 + 1 * l.val) = n.val * 128 + l.val by omega]
  refine Eq.trans (b := requant (tapCols L r ho c) (RS ho) (bias n) (mult n) (shift n) zo (ix2 g l)) ?_ ?_
  · unfold outCodes
    dsimp only
    generalize requant _ _ _ _ _ _ = v
    pointwise
  · rw [requant_apply, tapCols_apply hz hL hR, hRS, hb, hm, hs, codeN, rowN, ← ofInt_sub]
    have e : (fun kh kw k => ((V kh kw ⟨c.val * 128 + l.val, by omega⟩ k : ℕ) : ℤ)) = fun kh kw k => ((w (n.val * 128 + l.val) kh kw k : ℕ) : ℤ) := by
      funext kh kw k; exact congrArg _ (hw kh kw l k)
    rw [e, convSum_sub]

theorem codes_canon (hz : -128 ≤ z.toInt ∧ z.toInt ≤ 127) (hL : LhsSpec x z L)
    {rl : Fin 3 → Fin 3 → FVec Ideal S256x1280 .fp8e4m3} {rf : Fin 7 → Fin 3 → Fin 3 → FVec Ideal S256x1280 .fp8e4m3}
    {Vl : Fin 3 → Fin 3 → Fin 256 → Fin 1280 → Nat} {Vf : Fin 7 → Fin 3 → Fin 3 → Fin 256 → Fin 1280 → Nat}
    (hRl : RhsSpec rl Vl) (hRf : ∀ nt, RhsSpec (rf nt) (Vf nt)) (RSl RSf : Fin 7 → IVec S32x128 32)
    (hRSl : ∀ ho g l, RSl ho (ix2 g l) = rowN x z ho.val g.val) (hRSf : ∀ ho g l, RSf ho (ix2 g l) = rowN x z ho.val g.val)
    (bias mult shift : Fin 15 → IVec S1x128 32)
    (hb : ∀ n l, bias n (ix2 0 l) = bf (n.val * 128 + l.val)) (hm : ∀ n l, mult n (ix2 0 l) = mf (n.val * 128 + l.val))
    (hs : ∀ n l, shift n (ix2 0 l) = sf (n.val * 128 + l.val))
    (hwl : ∀ kh kw n k, n.val < 128 → Vl kh kw n k = w (1792 + n.val) kh kw k)
    (hwf : ∀ nt kh kw n k, Vf nt kh kw n k = w (nt.val * 256 + n.val) kh kw k) (y : S15x224x128.Idx) :
    View.canon (codesModel L rl rf RSl RSf bias mult shift zo) y =
      codeN x z w bf mf sf zo ((y 1).val / 32) ((y 1).val % 32) ((y 0).val * 128 + (y 2).val) := by
  refine canon_eq (e := .i32) (fun y : S15x224x128.Idx => codeN x z w bf mf sf zo ((y 1).val / 32) ((y 1).val % 32)
      ((y 0).val * 128 + (y 2).val)) y _ ?_ ?_
  · have hwl' : ∀ (kh kw : Fin 3) (l : Fin 128) (k : Fin 1280),
        Vl kh kw ⟨(0 : Fin 2).val * 128 + l.val, by omega⟩ k = w ((Fin.last 14).val * 128 + l.val) kh kw k := by
      intro kh kw l k
      have e : ((Fin.last 14).val * 128 + l.val) = 1792 + ((0 : Fin 2).val * 128 + l.val) := by
        rw [Fin.val_last, Fin.val_zero]; omega
      rw [e]
      exact hwl kh kw _ k (by show (0 : Fin 2).val * 128 + l.val < 128; rw [Fin.val_zero]; omega)
    intro p hp i
    simp only [codesModel, List.mem_reverse, List.mem_flatMap, List.mem_append, List.mem_map] at hp
    obtain ⟨ho, -, rfl⟩ | ⟨nt, -, ho, -, c, -, rfl⟩ := hp
    · exact outCodes_spec hz hL hRl _ hRSl _ _ _ hb hm hs (Fin.last 14) 0 ho hwl' i
    · have hwf' : ∀ (kh kw : Fin 3) (l : Fin 128) (k : Fin 1280),
          Vf nt kh kw ⟨c.val * 128 + l.val, by omega⟩ k = w ((⟨nt.val * 2 + c.val, by omega⟩ : Fin 15).val * 128 + l.val) kh kw k := by
        intro kh kw l k
        have e : nt.val * 256 + (c.val * 128 + l.val) = (nt.val * 2 + c.val) * 128 + l.val := by omega
        rw [hwf]
        show w (nt.val * 256 + (c.val * 128 + l.val)) kh kw k = w ((nt.val * 2 + c.val) * 128 + l.val) kh kw k
        rw [e]
      exact outCodes_spec hz hL (hRf nt) _ hRSf _ _ _ hb hm hs ⟨nt.val * 2 + c.val, by omega⟩ c ho hwf' i
  · have h0 : (y 0).val < 15 := (y 0).isLt
    have h1 : (y 1).val < 224 := (y 1).isLt
    have h2 : (y 2).val < 128 := (y 2).isLt
    simp only [codesModel, List.mem_reverse, List.mem_flatMap, List.mem_append, List.mem_map]
    rcases lt_or_ge (y 0).val 14 with hn | hn
    · refine ⟨_, Or.inr ⟨⟨(y 0).val / 2, by omega⟩, mem_fins _, ⟨(y 1).val / 32, by omega⟩, mem_fins _, ⟨(y 0).val % 2, by omega⟩, mem_fins _, rfl⟩,
        (ix3 0 ⟨(y 1).val % 32, by omega⟩ (y 2) : S1x32x128.Idx), ?_⟩
      funext k
      apply Fin.ext
      fin_cases k
      · show (y 0).val / 2 * 2 + (y 0).val % 2 + 1 * 0 = (y 0).val; omega
      · show (y 1).val / 32 * 32 + 1 * ((y 1).val % 32) = (y 1).val; omega
      · show 0 + 1 * (y 2).val = (y 2).val; omega
    · refine ⟨_, Or.inl ⟨⟨(y 1).val / 32, by omega⟩, mem_fins _, rfl⟩,
        (ix3 0 ⟨(y 1).val % 32, by omega⟩ (y 2) : S1x32x128.Idx), ?_⟩
      funext k
      apply Fin.ext
      fin_cases k
      · show 14 + 1 * 0 = (y 0).val; omega
      · show (y 1).val / 32 * 32 + 1 * ((y 1).val % 32) = (y 1).val; omega
      · show 0 + 1 * (y 2).val = (y 2).val; omega

/-! ### The output -/

theorem outPiece_spec (C : Nat → Nat → Nat → BitVec 32) (Y : Fin 5 → Fin 6 → Fin 15 → IVec S1x7x128 32)
    (hY : ∀ wo b n ho l, Y wo b n (ix3 0 ho l) = C ho.val (wo.val * 6 + b.val) (n.val * 128 + l.val)) (n : Fin 15) (wo : Fin 5) (b : Fin 6)
    (i : S1x1x7x128.Idx) :
    (outPiece (F := Ideal) Y n wo b).2 i = (fun y : S6x5x7x1920.Idx => (C (y 2).val ((y 1).val * 6 + (y 0).val) (y 3).val).setWidth 8)
      ((outPiece (F := Ideal) Y n wo b).1.emb i) := by
  obtain ⟨h, l, rfl⟩ := idx4_unit i
  show _ = (C (0 + 1 * h.val) ((wo.val + 1 * 0) * 6 + (b.val + 1 * 0)) (n.val * 128 + 1 * l.val)).setWidth 8
  rw [show 0 + 1 * h.val = h.val by omega, show (wo.val + 1 * 0) * 6 + (b.val + 1 * 0) = wo.val * 6 + b.val by omega, Nat.one_mul, ← hY wo b n h l]
  unfold outPiece
  pointwise

theorem out_canon (C : Nat → Nat → Nat → BitVec 32) (Y : Fin 5 → Fin 6 → Fin 15 → IVec S1x7x128 32)
    (hY : ∀ wo b n ho l, Y wo b n (ix3 0 ho l) = C ho.val (wo.val * 6 + b.val) (n.val * 128 + l.val)) (y : S6x5x7x1920.Idx) :
    (∃ p ∈ outModel (F := Ideal) Y, ∃ x, p.1.emb x = y) ∧
      View.canon (outModel (F := Ideal) Y) y = (C (y 2).val ((y 1).val * 6 + (y 0).val) (y 3).val).setWidth 8 := by
  have hc : ∃ p ∈ outModel (F := Ideal) Y, ∃ x, p.1.emb x = y := by
    have h0 : (y 0).val < 6 := (y 0).isLt
    have h1 : (y 1).val < 5 := (y 1).isLt
    have h2 : (y 2).val < 7 := (y 2).isLt
    have h3 : (y 3).val < 1920 := (y 3).isLt
    simp only [outModel, List.mem_reverse, List.mem_flatMap, List.mem_append, List.mem_map]
    rcases lt_or_ge (y 3).val 1792 with hn | hn
    · refine ⟨_, Or.inr ⟨⟨(y 3).val / 256, by omega⟩, mem_fins _, ⟨(y 1).val, h1⟩, mem_fins _, ⟨(y 0).val, h0⟩, mem_fins _,
        ⟨(y 3).val / 128 % 2, by omega⟩, mem_fins _, rfl⟩, (ix4 0 0 (y 2) ⟨(y 3).val % 128, by omega⟩ : S1x1x7x128.Idx), ?_⟩
      funext k
      apply Fin.ext
      fin_cases k
      · show (y 0).val + 1 * 0 = (y 0).val; omega
      · show (y 1).val + 1 * 0 = (y 1).val; omega
      · show 0 + 1 * (y 2).val = (y 2).val; omega
      · show ((y 3).val / 256 * 2 + (y 3).val / 128 % 2) * 128 + 1 * ((y 3).val % 128) = (y 3).val; omega
    · refine ⟨_, Or.inl ⟨⟨(y 1).val, h1⟩, mem_fins _, ⟨(y 0).val, h0⟩, mem_fins _, rfl⟩,
        (ix4 0 0 (y 2) ⟨(y 3).val % 128, by omega⟩ : S1x1x7x128.Idx), ?_⟩
      funext k
      apply Fin.ext
      fin_cases k
      · show (y 0).val + 1 * 0 = (y 0).val; omega
      · show (y 1).val + 1 * 0 = (y 1).val; omega
      · show 0 + 1 * (y 2).val = (y 2).val; omega
      · show 14 * 128 + 1 * ((y 3).val % 128) = (y 3).val; omega
  refine ⟨hc, canon_eq (e := .i8) (fun y : S6x5x7x1920.Idx => (C (y 2).val ((y 1).val * 6 + (y 0).val) (y 3).val).setWidth 8) y _ ?_ hc⟩
  intro p hp i
  simp only [outModel, List.mem_reverse, List.mem_flatMap, List.mem_append, List.mem_map] at hp
  obtain ⟨wo, -, b, -, rfl⟩ | ⟨nt, -, wo, -, b, -, c, -, rfl⟩ := hp
  · exact outPiece_spec C Y hY _ wo b i
  · exact outPiece_spec C Y hY _ wo b i

end Cert.Conv
-- ==== Proof.V7.lean ====
module

public import proofs.«01_k».proof.Proof.V6
public import proofs.«01_k».proof.Proof.T2

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run

/-! ### What the body's loads read -/

theorem xCol_apply (arg0 : Memref sig .tc .vmem S6x10x14x1280 .i8) (harg0 : arg0.IsWhole) (x0 : Vec Ideal S6x10x14x1280 .i8)
    (b : Fin 6) (w : Fin 10) (h : Fin 14) (c : Fin 1280) :
    xCol (F := Ideal) arg0 harg0 x0 b w (ix4 0 0 h c) = x0 (ix4 b w h c) := by
  unfold xCol
  rw [View.readAt_apply, harg0.read_unread]
  congr 1
  funext k
  apply Fin.ext
  fin_cases k
  · show b.val + 1 * 0 = b.val; omega
  · show w.val + 1 * 0 = w.val; omega
  · show 0 + 1 * h.val = h.val; omega
  · show 0 + 1 * c.val = c.val; omega

theorem scalarOf_apply (arg1 : Memref sig .tc .smem S1 .i32) (harg1 : arg1.IsWhole) (x1 : Vec Ideal S1 .i32) :
    scalarOf (F := Ideal) arg1 harg1 x1 = x1 (ix1 0) := by
  unfold scalarOf
  rw [View.readAt_apply, harg1.read_unread]
  congr 1
  funext k
  apply Fin.ext
  fin_cases k
  rfl

theorem chanOf_apply (arg3 : Memref sig .tc .vmem S1x1920 .i32) (harg3 : arg3.IsWhole) (x3 : Vec Ideal S1x1920 .i32) (n : Fin 15) (l : Fin 128) :
    chanOf (F := Ideal) arg3 harg3 x3 n (ix2 0 l) = x3 (ix2 0 ⟨n.val * 128 + l.val, by omega⟩) := by
  unfold chanOf
  rw [View.readAt_apply, harg3.read_unread]
  congr 1
  funext k
  apply Fin.ext
  fin_cases k
  · rfl
  · show n.val * 128 + 1 * l.val = n.val * 128 + l.val; omega

theorem cast_m (v : S1x1x224x1280.Idx → Ideal .bf16) (r : Fin 224) (c : Fin 1280) :
    shapeCast S224x1280 v shapeCasts_S1x1x224x1280_S224x1280 (ix2 r c) = v (ix4 0 0 r c) := by
  pointwise

theorem cast_c (v : S1x1x192x1280.Idx → Ideal .bf16) (r : Fin 192) (c : Fin 1280) :
    shapeCast S192x1280 v shapeCasts_S1x1x192x1280_S192x1280 (ix2 r c) = v (ix4 0 0 r c) := by
  pointwise

theorem cast_d (v : S1x176x1280.Idx → Ideal .bf16) (r : Fin 176) (c : Fin 1280) :
    shapeCast S176x1280 v shapeCasts_S1x176x1280_S176x1280 (ix2 r c) = v (ix3 0 r c) := by
  pointwise

section words

variable (x : S6x10x14x1280.Idx → BitVec 8) (z : BitVec 32) (hz : -128 ≤ z.toInt ∧ z.toInt ≤ 127)
  (X : Fin 6 → Fin 10 → IVec S1x1x14x1280 8) (hX : ∀ b w h c, X b w (ix4 0 0 h c) = x (ix4 b w h c))
  (arg9 : Memref sig .tc .vmem S2x10x256x128 .i32)

include hz hX in
theorem wordRows_apply (n g0 : Nat) (wp : Fin 2) (lt : Fin 10) (ho : Fin 7) (hn : 0 < n) (h : g0 + n ≤ 32) (g : Fin n) (l : Fin 128) :
    wordRows (F := Ideal) arg9 (wordsModel X z) n g0 wp lt ho hn h (ix4 0 0 g l : (⟨4, ![1, 1, n, 128]⟩ : Shape).Idx) = wordN x z wp.val lt.val ((g0 + g.val) * 8 + ho.val) l.val := by
  unfold wordRows
  rw [View.readCov_eq_canon']
  have e2 : g0 * 8 + ho.val + 8 * g.val = (g0 + g.val) * 8 + ho.val := by ring
  have i0 : ((rowsRect n g0 wp lt ho hn h).idx (ix4 0 0 g l : (⟨4, ![1, 1, n, 128]⟩ : Shape).Idx) 0).val = wp.val := Nat.add_zero _
  have i1 : ((rowsRect n g0 wp lt ho hn h).idx (ix4 0 0 g l : (⟨4, ![1, 1, n, 128]⟩ : Shape).Idx) 1).val = lt.val := Nat.add_zero _
  have i2 : ((rowsRect n g0 wp lt ho hn h).idx (ix4 0 0 g l : (⟨4, ![1, 1, n, 128]⟩ : Shape).Idx) 2).val = (g0 + g.val) * 8 + ho.val := e2
  have i3 : ((rowsRect n g0 wp lt ho hn h).idx (ix4 0 0 g l : (⟨4, ![1, 1, n, 128]⟩ : Shape).Idx) 3).val = l.val :=
    (Nat.zero_add _).trans (Nat.one_mul _)
  have hw := words_canon x z hz X hX ((rowsRect n g0 wp lt ho hn h).idx (ix4 0 0 g l : (⟨4, ![1, 1, n, 128]⟩ : Shape).Idx)) (by rw [i2]; omega)
  unfold wordsF at hw
  rw [i0, i1, i2, i3] at hw
  exact hw

variable (arg10 : Memref sig .tc .vmem S2x2x224x1280 .bf16) (arg11 : Memref sig .tc .vmem S2x176x1280 .bf16)
  (arg12 : Memref sig .tc .vmem S144x1280 .bf16)

include hz hX in
theorem lhs_spec : LhsSpec x z (lhsOf (F := Ideal) arg10 arg11 arg12
    (lmModel fun wp lt ho => wordRows arg9 (wordsModel X z) 32 0 wp lt ho (by decide) (by decide))
    (ldModel fun lt ho => wordRows arg9 (wordsModel X z) 24 6 0 lt ho (by decide) (by decide))
    (ld2Model fun lt ho => wordRows arg9 (wordsModel X z) 24 6 0 lt ho (by decide) (by decide))) := by
  have hW1 : ∀ (wp : Fin 2) (lt : Fin 10) (ho : Fin 7) (g : Fin 32) (l : Fin 128),
      wordRows (F := Ideal) arg9 (wordsModel X z) 32 0 wp lt ho (by decide) (by decide) (ix4 0 0 g l : S1x1x32x128.Idx) =
        wordN x z wp.val lt.val (g.val * 8 + ho.val) l.val := by
    intro wp lt ho g l
    rw [wordRows_apply x z hz X hX arg9, Nat.zero_add]
  have hW2 : ∀ (lt : Fin 10) (ho : Fin 7) (g : Fin 24) (l : Fin 128),
      wordRows (F := Ideal) arg9 (wordsModel X z) 24 6 0 lt ho (by decide) (by decide) (ix4 0 0 g l : S1x1x24x128.Idx) =
        wordN x z 0 lt.val ((6 + g.val) * 8 + ho.val) l.val := fun lt ho g l => wordRows_apply x z hz X hX arg9 24 6 0 lt ho _ _ g l
  have eM : ∀ B : LoadRect S2x2x224x1280, arg10.view.readCov (lmModel (F := Ideal) fun wp lt ho =>
      wordRows arg9 (wordsModel X z) 32 0 wp lt ho (by decide) (by decide)) B = fun j => lmF x z (B.idx j) := fun B => by
    rw [View.readCov_eq_canon']; funext j; exact lm_canon x z hz _ hW1 _
  have eD : ∀ B : LoadRect S2x176x1280, arg11.view.readCov (ldModel (F := Ideal) fun lt ho =>
      wordRows arg9 (wordsModel X z) 24 6 0 lt ho (by decide) (by decide)) B = fun j => ldF x z (B.idx j) := fun B => by
    rw [View.readCov_eq_canon']; funext j; exact ld_canon x z hz _ hW2 _
  have eE : ∀ B : LoadRect S144x1280, arg12.view.readCov (ld2Model (F := Ideal) fun lt ho =>
      wordRows arg9 (wordsModel X z) 24 6 0 lt ho (by decide) (by decide)) B = fun j => ld2F x z (B.idx j) := fun B => by
    rw [View.readCov_eq_canon']; funext j; exact ld2_canon x z hz _ hW2 _
  unfold lhsOf
  simp only [eM, eD, eE]
  clear eM eD eE hW1 hW2
  refine ⟨?_, ?_, ?_, ?_⟩
  · intro p wp r c
    dsimp only
    refine (cast_m _ r c).trans ?_
    show lmN x z (p.val + 1 * 0) (wp.val + 1 * 0) (0 + 1 * r.val) (0 + 1 * c.val) = _
    simp only [Nat.mul_zero, Nat.add_zero, Nat.zero_add, Nat.one_mul]
  · intro wp r c
    dsimp only
    refine (cast_c _ r c).trans ?_
    show lmN x z (0 + 1 * 0) (wp.val + 1 * 0) (32 + 1 * r.val) (0 + 1 * c.val) = _
    simp only [Nat.mul_zero, Nat.add_zero, Nat.zero_add, Nat.one_mul]
  · intro p r c
    dsimp only
    refine (cast_d _ r c).trans ?_
    show ldN x z (p.val + 1 * 0) (0 + 1 * r.val) (0 + 1 * c.val) = _
    simp only [Nat.mul_zero, Nat.add_zero, Nat.zero_add, Nat.one_mul]
  · intro r c
    show ld2N x z (0 + 1 * r.val) (0 + 1 * c.val) = _
    simp only [Nat.zero_add, Nat.one_mul]

end words

/-! ### The weights in scratch -/

section weights

variable (c : Dev nD) (fh0 : HbBuf0 (F := Ideal) c hbM0_0)

theorem wPieces_canon (y : S3x3x1920x640.Idx) : View.canon (wPieces (F := Ideal) c fh0) y = fh0 y := by
  refine canon_eq (e := .i8) (fun y : S3x3x1920x640.Idx => fh0 y) y _ ?_ ?_
  · intro p hp i
    simp only [wPieces, List.mem_append, List.mem_map, List.mem_singleton] at hp
    obtain ⟨nt, -, rfl⟩ | rfl := hp <;> rfl
  · have h0 : (y 0).val < 3 := (y 0).isLt
    have h1 : (y 1).val < 3 := (y 1).isLt
    have h2 : (y 2).val < 1920 := (y 2).isLt
    have h3 : (y 3).val < 640 := (y 3).isLt
    simp only [wPieces, List.mem_append, List.mem_map, List.mem_singleton]
    rcases lt_or_ge (y 2).val 1792 with hn | hn
    · refine ⟨_, Or.inl ⟨⟨(y 2).val / 256, by omega⟩, mem_fins _, rfl⟩, (ix4 ⟨(y 0).val, h0⟩ ⟨(y 1).val, h1⟩ ⟨(y 2).val % 256, by omega⟩ ⟨(y 3).val, h3⟩ : (⟨4, ![3, 3, 256, 640]⟩ : Shape).Idx), ?_⟩
      funext k
      apply Fin.ext
      fin_cases k
      · show 0 + 1 * (y 0).val = (y 0).val; omega
      · show 0 + 1 * (y 1).val = (y 1).val; omega
      · show (y 2).val / 256 * 256 + 1 * ((y 2).val % 256) = (y 2).val; omega
      · show 0 + 1 * (y 3).val = (y 3).val; omega
    · refine ⟨_, Or.inr rfl, (ix4 ⟨(y 0).val, h0⟩ ⟨(y 1).val, h1⟩ ⟨(y 2).val - 1792, by omega⟩ ⟨(y 3).val, h3⟩ : (⟨4, ![3, 3, 128, 640]⟩ : Shape).Idx), ?_⟩
      funext k
      apply Fin.ext
      fin_cases k
      · show 0 + 1 * (y 0).val = (y 0).val; omega
      · show 0 + 1 * (y 1).val = (y 1).val; omega
      · show 1792 + 1 * ((y 2).val - 1792) = (y 2).val; omega
      · show 0 + 1 * (y 3).val = (y 3).val; omega

variable (arg8 : Memref sig .tc .vmem S3x3x1920x640 .i8)

/-- The code of output channel `co`, tap `(kh, kw)` and column `k`. -/
def wCode (wt : S3x3x1920x640.Idx → BitVec 8) (co : Nat) (kh kw : Fin 3) (k : Fin 1280) : Nat :=
  if h : co < 1920 then nibCode (k.val / 128 % 2) (wt (ix4 kh kw ⟨co, h⟩ ⟨128 * (k.val / 256) + k.val % 128, by omega⟩)) else 0

theorem wCode_lt (wt : S3x3x1920x640.Idx → BitVec 8) (co : Nat) (kh kw : Fin 3) (k : Fin 1280) : wCode wt co kh kw k < 16 := by
  unfold wCode
  split
  · exact nibCode_lt _ _
  · decide

theorem wFull_apply (nt : Fin 7) (kh kw : Fin 3) (T : Fin 5) (n : Fin 256) (l : Fin 128) :
    wFull (F := Ideal) arg8 (wPieces c fh0) nt kh kw T (ix4 0 0 n l) = fh0 (ix4 kh kw ⟨nt.val * 256 + n.val, by omega⟩ ⟨128 * T.val + l.val, by omega⟩) := by
  unfold wFull
  rw [View.readCov_eq_canon']
  refine (wPieces_canon c fh0 _).trans ?_
  congr 1
  funext k
  apply Fin.ext
  fin_cases k
  · show kh.val + 1 * 0 = kh.val; omega
  · show kw.val + 1 * 0 = kw.val; omega
  · show nt.val * 256 + 1 * n.val = nt.val * 256 + n.val; omega
  · show T.val * 128 + 1 * l.val = 128 * T.val + l.val; omega

theorem wLast_apply (kh kw : Fin 3) (T : Fin 5) (n : Fin 128) (l : Fin 128) :
    wLast (F := Ideal) arg8 (wPieces c fh0) kh kw T (ix4 0 0 n l) = fh0 (ix4 kh kw ⟨1792 + n.val, by omega⟩ ⟨128 * T.val + l.val, by omega⟩) := by
  unfold wLast
  rw [View.readCov_eq_canon']
  refine (wPieces_canon c fh0 _).trans ?_
  congr 1
  funext k
  apply Fin.ext
  fin_cases k
  · show kh.val + 1 * 0 = kh.val; omega
  · show kw.val + 1 * 0 = kw.val; omega
  · show 1792 + 1 * n.val = 1792 + n.val; omega
  · show T.val * 128 + 1 * l.val = 128 * T.val + l.val; omega

theorem rhsFull_spec (nt : Fin 7) : RhsSpec (fun kh kw => rhsFull (F := Ideal) (wFull arg8 (wPieces c fh0) nt kh kw))
    (fun kh kw n k => wCode fh0 (nt.val * 256 + n.val) kh kw k) := by
  refine ⟨?_, fun _ _ _ _ => wCode_lt _ _ _ _ _⟩
  intro kh kw n k
  rw [rhsFull_apply, wFull_apply, wCode, dif_pos (show nt.val * 256 + n.val < 1920 by omega)]

theorem rhsLast_spec : RhsSpec (fun kh kw => rhsLast (F := Ideal) (wLast arg8 (wPieces c fh0) kh kw))
    (fun kh kw n k => if n.val < 128 then wCode fh0 (1792 + n.val) kh kw k else 1) := by
  refine ⟨?_, ?_⟩
  · intro kh kw n k
    rcases lt_or_ge n.val 128 with hn | hn
    · rw [if_pos hn, rhsLast_top _ ⟨n.val, hn⟩ n k rfl, rhsTop_apply, wLast_apply, wCode, dif_pos (show 1792 + n.val < 1920 by omega)]
    · rw [if_neg (by omega), rhsLast_ones _ ⟨n.val - 128, by omega⟩ n k (show 128 + (n.val - 128) = n.val by omega), rhsOnes_apply]
  · intro kh kw n k
    split
    · exact wCode_lt _ _ _ _ _
    · decide

end weights

/-! ### The kernel's block -/

theorem rs_apply {x : S6x10x14x1280.Idx → BitVec 8} {z : BitVec 32} {L : Lhs Ideal} {r : Fin 3 → Fin 3 → FVec Ideal S256x1280 .fp8e4m3}
    {V : Fin 3 → Fin 3 → Fin 256 → Fin 1280 → Nat} (hz : -128 ≤ z.toInt ∧ z.toInt ≤ 127) (hL : LhsSpec x z L) (hR : RhsSpec r V)
    (h1 : ∀ kh kw n k, 128 ≤ n.val → V kh kw n k = 1) (arg13 : Memref sig .tc .vmem S224x128 .i32)
    (m : Nat) (hm : m ≤ 7) (ho : Fin 7) (hho : ho.val < m) (g : Fin 32) (l : Fin 128) :
    rsOf (F := Ideal) arg13 (rsumModel L r m hm) ho (ix2 g l) = rowN x z ho.val g.val := by
  unfold rsOf
  rw [View.readCov_eq_canon']
  refine (rsum_canon hz hL hR h1 m hm _ ?_).trans ?_
  · show (ho.val * 32 + 1 * g.val) / 32 < m; omega
  · show rowN _ _ ((ho.val * 32 + 1 * g.val) / 32) ((ho.val * 32 + 1 * g.val) % 32) = _
    rw [show (ho.val * 32 + 1 * g.val) / 32 = ho.val by omega, show (ho.val * 32 + 1 * g.val) % 32 = g.val by omega]

/-- The code the kernel stores for output row `ho`, group `g` and channel `co`. -/
def outN (x : S6x10x14x1280.Idx → BitVec 8) (z zo : BitVec 32) (wt : S3x3x1920x640.Idx → BitVec 8)
    (bias mult shift : S1x1920.Idx → BitVec 32) (ho g co : Nat) : BitVec 32 :=
  codeN x z (wCode wt) (fun n => if h : n < 1920 then bias (ix2 0 ⟨n, h⟩) else 0) (fun n => if h : n < 1920 then mult (ix2 0 ⟨n, h⟩) else 0)
    (fun n => if h : n < 1920 then shift (ix2 0 ⟨n, h⟩) else 0) zo ho g co

theorem block_canon (c : Dev nD) (arg0 : Memref sig .tc .vmem S6x10x14x1280 .i8) (harg0 : arg0.IsWhole)
    (arg1 : Memref sig .tc .smem S1 .i32) (harg1 : arg1.IsWhole) (arg2 : Memref sig .tc .smem S1 .i32) (harg2 : arg2.IsWhole)
    (arg3 : Memref sig .tc .vmem S1x1920 .i32) (harg3 : arg3.IsWhole) (arg4 : Memref sig .tc .vmem S1x1920 .i32) (harg4 : arg4.IsWhole)
    (arg5 : Memref sig .tc .vmem S1x1920 .i32) (harg5 : arg5.IsWhole) (arg7 : Memref sig .tc .vmem S6x5x7x1920 .i8) (harg7 : arg7.IsWhole)
    (arg8 : Memref sig .tc .vmem S3x3x1920x640 .i8) (harg8 : arg8.IsWhole)
    (arg9 : Memref sig .tc .vmem S2x10x256x128 .i32) (harg9 : arg9.IsWhole)
    (arg10 : Memref sig .tc .vmem S2x2x224x1280 .bf16) (harg10 : arg10.IsWhole) (arg11 : Memref sig .tc .vmem S2x176x1280 .bf16) (harg11 : arg11.IsWhole)
    (arg12 : Memref sig .tc .vmem S144x1280 .bf16) (harg12 : arg12.IsWhole) (arg13 : Memref sig .tc .vmem S224x128 .i32) (harg13 : arg13.IsWhole)
    (arg14 : Memref sig .tc .vmem S15x224x128 .i32) (harg14 : arg14.IsWhole)
    (x0 : Vec Ideal S6x10x14x1280 .i8) (x1 x2 : Vec Ideal S1 .i32) (x3 x4 x5 : Vec Ideal S1x1920 .i32) (fh0 : HbBuf0 (F := Ideal) c hbM0_0)
    (hz : -128 ≤ (x1 (ix1 0) : BitVec 32).toInt ∧ (x1 (ix1 0) : BitVec 32).toInt ≤ 127) (y : S6x5x7x1920.Idx) :
    View.canon (kernelRun0_A (F := Ideal) c arg0 harg0 arg1 harg1 arg2 harg2 arg3 harg3 arg4 harg4 arg5 harg5 arg7 harg7 arg8 harg8 arg9 harg9 arg10 harg10
      arg11 harg11 arg12 harg12 arg13 harg13 arg14 harg14 x0 x1 x2 x3 x4 x5 fh0).1 y =
      (outN x0 (x1 (ix1 0)) (x2 (ix1 0)) fh0 x3 x4 x5 (y 2).val ((y 1).val * 6 + (y 0).val) (y 3).val).setWidth 8 := by
  rw [out_eq, codes_eq, rsum_eq, lm_eq, ld_eq, ld2_eq, words_eq, scalarOf_apply, scalarOf_apply]
  have hL := lhs_spec x0 (x1 (ix1 0)) hz (xCol arg0 harg0 x0) (fun b w h c => xCol_apply arg0 harg0 x0 b w h c) arg9 arg10 arg11 arg12
  refine (out_canon (outN x0 (x1 (ix1 0)) (x2 (ix1 0)) fh0 x3 x4 x5) _ ?_ y).2
  intro wo b n ho l
  rw [View.readCov_eq_canon']
  have hR := rhsLast_spec c fh0 arg8
  have hrs := rs_apply hz hL hR (fun kh kw n k hn => if_neg (by omega)) arg13
  refine (codes_canon (w := wCode fh0) (bf := fun n => if h : n < 1920 then x3 (ix2 0 ⟨n, h⟩) else 0) (mf := fun n => if h : n < 1920 then x4 (ix2 0 ⟨n, h⟩) else 0)
    (sf := fun n => if h : n < 1920 then x5 (ix2 0 ⟨n, h⟩) else 0) hz hL hR (rhsFull_spec c fh0 arg8) _ _
    (fun ho g l => hrs (ho.val + 1) (by omega) ho (by omega) g l) (fun ho g l => hrs 7 (by decide) ho (by omega) g l) _ _ _ ?_ ?_ ?_ ?_ ?_ _).trans ?_
  · intro n l; rw [chanOf_apply, dif_pos (show n.val * 128 + l.val < 1920 by omega)]
  · intro n l; rw [chanOf_apply, dif_pos (show n.val * 128 + l.val < 1920 by omega)]
  · intro n l; rw [chanOf_apply, dif_pos (show n.val * 128 + l.val < 1920 by omega)]
  · intro kh kw n k hn; exact if_pos hn
  · intro nt kh kw n k; rfl
  · have e1 : wo.val * 6 + b.val + 32 * ho.val = ho.val * 32 + (wo.val * 6 + b.val) := by ring
    show codeN _ _ _ _ _ _ _ ((wo.val * 6 + b.val + 32 * ho.val) / 32) ((wo.val * 6 + b.val + 32 * ho.val) % 32) ((n.val + 1 * 0) * 128 + (0 + 1 * l.val)) = _
    rw [show (wo.val * 6 + b.val + 32 * ho.val) / 32 = ho.val by omega, show (wo.val * 6 + b.val + 32 * ho.val) % 32 = wo.val * 6 + b.val by omega,
      show (n.val + 1 * 0) * 128 + (0 + 1 * l.val) = n.val * 128 + l.val by omega]
    rfl

end Cert.Conv
-- ==== Proof.K1.lean ====
module

public import proofs.«01_k».proof.Proof.V7
public import proofs.«01_k».proof.Proof.Frame
public import Idealize.ShloMosaic.Lib.Pipeline.ValueKit
public import Idealize.ShloMosaic.Lib.Claim

@[expose] public section

set_option maxRecDepth 16384

noncomputable section

namespace Cert.Conv

open Idealize.ShloMosaic Idealize.ShloMosaic.TcCoe Idealize.ShloMosaic.Tactic
open Cert.KernelIdeal Cert.KernelIdeal.Gen Cert.KernelIdeal.Run
open Idealize.SL.Sem

/-! ### What the kernel program's run leaves -/

variable (m : (ℓ : Loc nD τ sig) → Buf (Elt Ideal) ℓ)

theorem V_v0 (c : Dev nD) : V m c main_v0 = transpose S6x10x14x1280 [0, 2, 1, 3] (m ((c : Thread nD τ).loc main_arg0)) transposes_S6x14x10x1280_S6x10x14x1280_0_2_1_3 := by
  unfold V V0
  simp only [hostOps0, List.flatten_cons, List.flatten_nil, List.append_nil]
  after_results

theorem V_v1 (c : Dev nD) : V m c main_v1 = transpose S3x3x1920x640 [1, 2, 0, 3] (m ((c : Thread nD τ).loc main_arg2)) transposes_S1920x3x3x640_S3x3x1920x640_1_2_0_3 := by
  unfold V V0
  simp only [hostOps0, List.flatten_cons, List.flatten_nil, List.append_nil]
  after_results

theorem V_v2 (c : Dev nD) : V m c main_v2 = broadcastInDim S1x1920 ![1] bcast_S1920_S1x1920_1 (m ((c : Thread nD τ).loc main_arg3)) := by
  unfold V V0
  simp only [hostOps0, List.flatten_cons, List.flatten_nil, List.append_nil]
  after_results

theorem V_v3 (c : Dev nD) : V m c main_v3 = broadcastInDim S1x1920 ![1] bcast_S1920_S1x1920_1 (m ((c : Thread nD τ).loc main_arg4)) := by
  unfold V V0
  simp only [hostOps0, List.flatten_cons, List.flatten_nil, List.append_nil]
  after_results

theorem V_v4 (c : Dev nD) : V m c main_v4 = broadcastInDim S1x1920 ![1] bcast_S1920_S1x1920_1 (m ((c : Thread nD τ).loc main_arg5)) := by
  unfold V V0
  simp only [hostOps0, List.flatten_cons, List.flatten_nil, List.append_nil]
  after_results

theorem W_v6 (c : Dev nD) : Pipeline.afterTail₀ cfgs (dats m) 0 (V0 m) [hostOps1] c main_v6 =
    transpose S6x7x5x1920 [0, 2, 1, 3] ((dats m 0 c).arrAt 6 cfg0.N) transposes_S6x5x7x1920_S6x7x5x1920_0_2_1_3 := by
  unfold Pipeline.afterTail₀
  simp only [hostOps1, List.flatten_cons, List.flatten_nil, List.append_nil]
  after_results
  exact congrArg (fun z => transpose S6x7x5x1920 [0, 2, 1, 3] z transposes_S6x5x7x1920_S6x7x5x1920_0_2_1_3)
    (Pipeline.withArrays_arr spec0 (by decide) c (V0 m c) (fun w => (dats m 0 c).arrAt w cfg0.N) 6)

theorem arr6 (c : Dev nD)
    (hz : -128 ≤ (m ((c : Thread nD τ).loc main_arg1) (ix1 0) : BitVec 32).toInt ∧ (m ((c : Thread nD τ).loc main_arg1) (ix1 0) : BitVec 32).toInt ≤ 127) :
    (dats m 0 c).arrAt 6 cfg0.N = fun y : S6x5x7x1920.Idx => (outN (V m c main_v0) (m ((c : Thread nD τ).loc main_arg1) (ix1 0)) (m ((c : Thread nD τ).loc main_arg6) (ix1 0))
      (V m c main_v1) (V m c main_v2) (V m c main_v3) (V m c main_v4) (y 2).val ((y 1).val * 6 + (y 0).val) (y 3).val).setWidth 8 := by
  refine (dats m 0 c).arrAt_eq_of_after_last 6 t0_0 (by decide +kernel) _ fun j => ?_
  blk_simp
  rw [after0_6]
  unfold outsAt0 out0_A_6
  rw [View.read_writes_junk_eq_canon]
  have e0 : iblk m c 0 t0_0 = V m c main_v0 := by
    funext y; blk_ext [iblk, V, show win0_0.index t0_0 0 = 0 from rfl, show win0_0.index t0_0 1 = 0 from rfl, show win0_0.index t0_0 2 = 0 from rfl, show win0_0.index t0_0 3 = 0 from rfl]
  have e1 : iblk m c 1 t0_0 = V m c main_arg1 := by
    funext y; blk_ext [iblk, V, show win0_1.index t0_0 0 = 0 from rfl]
  have e2 : iblk m c 2 t0_0 = V m c main_arg6 := by
    funext y; blk_ext [iblk, V, show win0_2.index t0_0 0 = 0 from rfl]
  have e3 : iblk m c 3 t0_0 = V m c main_v2 := by
    funext y; blk_ext [iblk, V, show win0_3.index t0_0 0 = 0 from rfl, show win0_3.index t0_0 1 = 0 from rfl]
  have e4 : iblk m c 4 t0_0 = V m c main_v3 := by
    funext y; blk_ext [iblk, V, show win0_4.index t0_0 0 = 0 from rfl, show win0_4.index t0_0 1 = 0 from rfl]
  have e5 : iblk m c 5 t0_0 = V m c main_v4 := by
    funext y; blk_ext [iblk, V, show win0_5.index t0_0 0 = 0 from rfl, show win0_5.index t0_0 1 = 0 from rfl]
  rw [e0, e1, e2, e3, e4, e5, V_main_arg1, V_main_arg6]
  exact block_canon c _ _ _ _ _ _ _ _ _ _ _ _ _ _ _ _ _ _ _ _ _ _ _ _ _ _ _ _ _ _ _ _ _ _ _ hz j

/-- What the kernel's run leaves in its result, every argument unchanged. -/
theorem kernel_run (ρ : Dev nD → PrngReg)
    (hz : ∀ c : Dev nD, -128 ≤ (m ((c : Thread nD τ).loc main_arg1) (ix1 0) : BitVec 32).toInt ∧ (m ((c : Thread nD τ).loc main_arg1) (ix1 0) : BitVec 32).toInt ≤ 127) :
    θ_run defs (onTc (τ := τ) (main (F := Ideal))) ⟨m, fun _ => 0, ρ⟩ (fun r => ∀ c : Dev nD,
      r.2.mem ((c : Thread nD τ).loc main_v6) = transpose S6x7x5x1920 [0, 2, 1, 3]
        (fun y : S6x5x7x1920.Idx => (outN (V m c main_v0) (m ((c : Thread nD τ).loc main_arg1) (ix1 0)) (m ((c : Thread nD τ).loc main_arg6) (ix1 0))
        (V m c main_v1) (V m c main_v2) (V m c main_v3) (V m c main_v4) (y 2).val ((y 1).val * 6 + (y 0).val) (y 3).val).setWidth 8)
        transposes_S6x5x7x1920_S6x7x5x1920_0_2_1_3) :=
  (θ_run defs _ _).mono (fun _ h c => ((h c).2 main_v6 (Pipeline.mem_restRefs_of main_v6 (by decide) (by decide))).trans
    ((W_v6 m c).trans (congrArg (fun z => transpose S6x7x5x1920 [0, 2, 1, 3] z transposes_S6x5x7x1920_S6x7x5x1920_0_2_1_3) (arr6 m c (hz c)))))
    (run_main m ρ)

end Cert.Conv
-- ==== Proof.S1.lean ====
module

public import proofs.«01_k».proof.Proof.V6

@[expose] public section

set_option maxRecDepth 16384

noncomputable section

namespace Cert.Conv

open Idealize.ShloMosaic

/-! ### The requantisation of one number -/

/-- The high word of the doubled product as the reference writes it. -/
def highMulR (acc mult : BitVec 32) : BitVec 32 :=
  let mh := mult.sshiftRight 16
  let ml := mult &&& 65535#32
  let ah := acc.sshiftRight 16
  let al := acc &&& 65535#32
  2#32 * (ah * mh + (al * mh).sshiftRight 16 + (ah * ml).sshiftRight 16) +
    (((al * mh) &&& 65535#32) + ((ah * ml) &&& 65535#32) + ((al * ml) >>> 16) + 16384#32).sshiftRight 15

/-- The rounded doubled high product, as an integer. -/
def highInt (A M : ℤ) : ℤ := (A * M + 2 ^ 30) / 2 ^ 31

theorem toInt_sshr (a : BitVec 32) (n : Nat) : (a.sshiftRight n).toInt = a.toInt / 2 ^ n := by
  rw [BitVec.toInt_sshiftRight, Int.shiftRight_eq_div_pow]; norm_cast

theorem toInt_low (a : BitVec 32) : (a &&& 65535#32).toInt = a.toInt % 65536 := by
  have h1 : (a &&& 65535#32).toNat = a.toNat % 65536 := by
    rw [BitVec.toNat_and]; exact Nat.and_two_pow_sub_one_eq_mod a.toNat 16
  have h2 := a.isLt
  rw [BitVec.toInt_eq_toNat_cond, BitVec.toInt_eq_toNat_cond, h1]
  split <;> split <;> omega

theorem toInt_of_range (a : BitVec 32) (v : ℤ) (h : a = BitVec.ofInt 32 v) (h1 : -2147483648 ≤ v) (h2 : v ≤ 2147483647) : a.toInt = v := by
  rw [h, BitVec.toInt_ofInt]
  exact Int.bmod_eq_of_le (by norm_num; omega) (by norm_num; omega)

theorem ofInt_toInt' (a : BitVec 32) : a = BitVec.ofInt 32 a.toInt := (BitVec.ofInt_toInt).symm

theorem mul_ofInt (a b : BitVec 32) : a * b = BitVec.ofInt 32 (a.toInt * b.toInt) := by
  rw [BitVec.ofInt_mul, BitVec.ofInt_toInt, BitVec.ofInt_toInt]

theorem add_ofInt (a b : BitVec 32) : a + b = BitVec.ofInt 32 (a.toInt + b.toInt) := by
  rw [BitVec.ofInt_add, BitVec.ofInt_toInt, BitVec.ofInt_toInt]

theorem halves_bounds (A : BitVec 32) : -32768 ≤ A.toInt / 65536 ∧ A.toInt / 65536 ≤ 32767 ∧ 0 ≤ A.toInt % 65536 ∧ A.toInt % 65536 ≤ 65535 := by
  have h1 := BitVec.le_toInt A
  have h2 := BitVec.toInt_lt (x := A)
  norm_num at h1 h2
  omega

theorem toInt_pll (a b : BitVec 32) (ha : 0 ≤ a.toInt ∧ a.toInt ≤ 65535) (hb : 0 ≤ b.toInt ∧ b.toInt ≤ 65535) :
    ((a * b) >>> 16).toInt = a.toInt * b.toInt / 65536 := by
  have ea : a.toInt = a.toNat := by
    have h2 := a.isLt
    rw [BitVec.toInt_eq_toNat_cond] at ha ⊢
    split at ha <;> rename_i h <;> simp only [h, if_true, if_false] <;> omega
  have eb : b.toInt = b.toNat := by
    have h2 := b.isLt
    rw [BitVec.toInt_eq_toNat_cond] at hb ⊢
    split at hb <;> rename_i h <;> simp only [h, if_true, if_false] <;> omega
  have hm : a.toNat * b.toNat ≤ 65535 * 65535 := Nat.mul_le_mul (by omega) (by omega)
  have e : ((a * b) >>> 16).toNat = a.toNat * b.toNat / 65536 := by
    rw [BitVec.toNat_ushiftRight, BitVec.toNat_mul, Nat.mod_eq_of_lt (by omega), Nat.shiftRight_eq_div_pow]
  have e2 : a.toNat * b.toNat / 65536 < 2147483648 := by omega
  rw [BitVec.toInt_eq_toNat_of_lt (by omega), e, ea, eb]
  push_cast
  rfl

section high

variable (acc mult : BitVec 32)

theorem prods : ∃ P1 P2 P3 P4 : ℤ, (acc.sshiftRight 16).toInt * (mult.sshiftRight 16).toInt = P1 ∧
    (acc &&& 65535#32).toInt * (mult.sshiftRight 16).toInt = P2 ∧ (acc.sshiftRight 16).toInt * (mult &&& 65535#32).toInt = P3 ∧
    (acc &&& 65535#32).toInt * (mult &&& 65535#32).toInt = P4 ∧
    acc.toInt * mult.toInt = 4294967296 * P1 + 65536 * (P2 + P3) + P4 ∧ -2147450880 ≤ P2 ∧ P2 ≤ 2147385345 ∧ -2147450880 ≤ P3 ∧ P3 ≤ 2147385345 ∧
    0 ≤ P4 ∧ P4 ≤ 4294836225 := by
  rw [toInt_sshr, toInt_sshr, toInt_low, toInt_low]
  have hA := halves_bounds acc
  have hM := halves_bounds mult
  norm_num at hA hM ⊢
  have eA : acc.toInt = 65536 * (acc.toInt / 65536) + acc.toInt % 65536 := by omega
  have eM : mult.toInt = 65536 * (mult.toInt / 65536) + mult.toInt % 65536 := by omega
  generalize acc.toInt / 65536 = ah at *
  generalize acc.toInt % 65536 = al at *
  generalize mult.toInt / 65536 = mh at *
  generalize mult.toInt % 65536 = ml at *
  refine ⟨?_, ?_, ?_, ?_, ?_, ?_, ?_⟩
  · rw [eA, eM]; ring
  all_goals nlinarith

theorem highMulS_eq : highMulS acc mult = BitVec.ofInt 32 (highInt acc.toInt mult.toInt) := by
  obtain ⟨P1, P2, P3, P4, h1, h2, h3, h4, hP, b1, b2, b3, b4, b5, b6⟩ := prods acc mult
  have hA := halves_bounds acc
  have hM := halves_bounds mult
  have ll := toInt_pll (acc &&& 65535#32) (mult &&& 65535#32) (by rw [toInt_low]; omega) (by rw [toInt_low]; omega)
  rw [h4] at ll
  unfold highMulS
  dsimp only
  have et : ((acc &&& 65535#32) * mult.sshiftRight 16 + ((acc &&& 65535#32) * (mult &&& 65535#32)) >>> 16).toInt = P2 + P4 / 65536 := by
    refine toInt_of_range _ _ ?_ (by omega) (by omega)
    rw [BitVec.ofInt_add, ← h2, ← ll, ← mul_ofInt, ← ofInt_toInt']
  have ep : (acc.sshiftRight 16 * (mult &&& 65535#32)).toInt = P3 := toInt_of_range _ _ (by rw [mul_ofInt, h3]) (by omega) (by omega)
  generalize (acc &&& 65535#32) * mult.sshiftRight 16 + ((acc &&& 65535#32) * (mult &&& 65535#32)) >>> 16 = t at *
  generalize acc.sshiftRight 16 * (mult &&& 65535#32) = p at *
  have ec : ((t &&& 65535#32) + (p &&& 65535#32) + 16384#32).toInt = t.toInt % 65536 + p.toInt % 65536 + 16384 := by
    refine toInt_of_range _ _ ?_ (by omega) (by omega)
    rw [BitVec.ofInt_add, BitVec.ofInt_add, ← toInt_low, ← toInt_low, ← ofInt_toInt', ← ofInt_toInt']; rfl
  have ec' := toInt_sshr ((t &&& 65535#32) + (p &&& 65535#32) + 16384#32) 15
  rw [ec] at ec'
  generalize ((t &&& 65535#32) + (p &&& 65535#32) + 16384#32).sshiftRight 15 = c at *
  have e : highInt acc.toInt mult.toInt = 2 * (P1 + t.toInt / 2 ^ 16 + p.toInt / 2 ^ 16) + c.toInt := by
    unfold highInt
    rw [hP, ec', et, ep]
    norm_num
    omega
  rw [e, BitVec.ofInt_add, BitVec.ofInt_mul, BitVec.ofInt_add, BitVec.ofInt_add, ← toInt_sshr, ← toInt_sshr, ← h1, ← mul_ofInt, ← ofInt_toInt', ← ofInt_toInt', ← ofInt_toInt']
  rfl

theorem highMulR_eq : highMulR acc mult = BitVec.ofInt 32 (highInt acc.toInt mult.toInt) := by
  obtain ⟨P1, P2, P3, P4, h1, h2, h3, h4, hP, b1, b2, b3, b4, b5, b6⟩ := prods acc mult
  have hA := halves_bounds acc
  have hM := halves_bounds mult
  have ll := toInt_pll (acc &&& 65535#32) (mult &&& 65535#32) (by rw [toInt_low]; omega) (by rw [toInt_low]; omega)
  rw [h4] at ll
  unfold highMulR
  dsimp only
  have et : ((acc &&& 65535#32) * mult.sshiftRight 16).toInt = P2 := toInt_of_range _ _ (by rw [mul_ofInt, h2]) (by omega) (by omega)
  have ep : (acc.sshiftRight 16 * (mult &&& 65535#32)).toInt = P3 := toInt_of_range _ _ (by rw [mul_ofInt, h3]) (by omega) (by omega)
  generalize (acc &&& 65535#32) * mult.sshiftRight 16 = t at *
  generalize ((acc &&& 65535#32) * (mult &&& 65535#32)) >>> 16 = u at *
  generalize acc.sshiftRight 16 * (mult &&& 65535#32) = p at *
  have ec : ((t &&& 65535#32) + (p &&& 65535#32) + u + 16384#32).toInt = t.toInt % 65536 + p.toInt % 65536 + u.toInt + 16384 := by
    refine toInt_of_range _ _ ?_ (by omega) (by omega)
    rw [BitVec.ofInt_add, BitVec.ofInt_add, BitVec.ofInt_add, ← toInt_low, ← toInt_low, ← ofInt_toInt', ← ofInt_toInt', ← ofInt_toInt']; rfl
  have ec' := toInt_sshr ((t &&& 65535#32) + (p &&& 65535#32) + u + 16384#32) 15
  rw [ec] at ec'
  generalize ((t &&& 65535#32) + (p &&& 65535#32) + u + 16384#32).sshiftRight 15 = c at *
  have e : highInt acc.toInt mult.toInt = 2 * (P1 + t.toInt / 2 ^ 16 + p.toInt / 2 ^ 16) + c.toInt := by
    unfold highInt
    rw [hP, ec', et, ep, ll]
    norm_num
    omega
  rw [e, BitVec.ofInt_add, BitVec.ofInt_mul, BitVec.ofInt_add, BitVec.ofInt_add, ← toInt_sshr, ← toInt_sshr, ← h1, ← mul_ofInt, ← ofInt_toInt', ← ofInt_toInt', ← ofInt_toInt']
  rfl

theorem highMul_bound (hm : mult ≠ 2147483648#32) : -2147483647 ≤ (highMulS acc mult).toInt := by
  have a1 := BitVec.le_toInt acc
  have a2 := BitVec.toInt_lt (x := acc)
  have m1 := BitVec.le_toInt mult
  have m2 := BitVec.toInt_lt (x := mult)
  have m3 : mult.toInt ≠ -2147483648 := by
    intro h
    refine hm (BitVec.eq_of_toInt_eq (h.trans ?_))
    decide
  norm_num at a1 a2 m1 m2
  have m4 : -2147483647 ≤ mult.toInt := by omega
  have p1 : -(2147483648 * 2147483647) ≤ acc.toInt * mult.toInt := by nlinarith
  have p2 : acc.toInt * mult.toInt ≤ 2147483648 * 2147483647 := by nlinarith
  have e : highInt acc.toInt mult.toInt = (acc.toInt * mult.toInt + 1073741824) / 2147483648 := by unfold highInt; norm_num
  rw [toInt_of_range _ _ (highMulS_eq acc mult) (by rw [e]; omega) (by rw [e]; omega), e]
  omega

end high

end Cert.Conv
-- ==== Proof.S2.lean ====
module

public import proofs.«01_k».proof.Proof.S1

@[expose] public section

set_option maxRecDepth 16384

noncomputable section

namespace Cert.Conv

open Idealize.ShloMosaic

/-! ### The rounding shift of one number -/

/-- The rounding right shift as the reference writes it. -/
def roundR (q shift : BitVec 32) : BitVec 32 :=
  let e := -shift
  let mask := (1#32 <<< e.toNat) - 1#32
  q.sshiftRight e.toNat +
    (if (mask.sshiftRight 1 + (if q.toInt < 0 then 1#32 else 0#32)).toInt < (q &&& mask).toInt then 1#32 else 0#32)

theorem toNat_mask (q : BitVec 32) (e : Nat) (he : e < 32) : (q &&& ((1#32 <<< e) - 1#32)).toNat = q.toNat % 2 ^ e := by
  have hp : 2 ^ e ≤ 2 ^ 31 := Nat.pow_le_pow_right (by norm_num) (by omega)
  have hp0 : 0 < 2 ^ e := by positivity
  have h : ((1#32 <<< e) - 1#32).toNat = 2 ^ e - 1 := by
    rw [BitVec.toNat_sub, BitVec.toNat_shiftLeft]
    norm_num [Nat.shiftLeft_eq]
    omega
  rw [BitVec.toNat_and, h, Nat.and_two_pow_sub_one_eq_mod]

theorem round_nat (Q : ℤ) (p : ℤ) (hp : 0 < p) :
    ((Q + (if Q < 0 then -1 else 0)) / p + 1) / 2 =
      Q / (2 * p) + (if p - 1 + (if Q < 0 then 1 else 0) < Q % (2 * p) then 1 else 0) := by
  have h1 := Int.emod_add_mul_ediv Q (2 * p)
  have h2 := Int.emod_nonneg Q (by omega : 2 * p ≠ 0)
  have h3 := Int.emod_lt_of_pos Q (by omega : 0 < 2 * p)
  generalize Q % (2 * p) = r at *
  generalize Q / (2 * p) = d at *
  subst h1
  by_cases hneg : r + 2 * p * d < 0
  · simp only [hneg, if_true]
    by_cases hr : p - 1 + 1 < r
    · rw [if_pos hr]
      rw [show (r + 2 * p * d + -1) / p = 2 * d + 1 from by
        rw [Int.ediv_eq_iff_of_pos hp]; constructor <;> nlinarith]
      omega
    · rw [if_neg hr]
      by_cases hr0 : r = 0
      · rw [show (r + 2 * p * d + -1) / p = 2 * d - 1 from by
          rw [Int.ediv_eq_iff_of_pos hp]; constructor <;> nlinarith]
        omega
      · rw [show (r + 2 * p * d + -1) / p = 2 * d from by
          rw [Int.ediv_eq_iff_of_pos hp]; constructor <;> nlinarith [(by omega : 1 ≤ r)]]
        omega
  · simp only [hneg, if_false]
    by_cases hr : p - 1 + 0 < r
    · rw [if_pos hr]
      rw [show (r + 2 * p * d + 0) / p = 2 * d + 1 from by
        rw [Int.ediv_eq_iff_of_pos hp]; constructor <;> nlinarith]
      omega
    · rw [if_neg hr]
      rw [show (r + 2 * p * d + 0) / p = 2 * d from by
        rw [Int.ediv_eq_iff_of_pos hp]; constructor <;> nlinarith]
      omega

theorem ite01 (P : Prop) [Decidable P] : 0 ≤ (if P then (1 : ℤ) else 0) ∧ (if P then (1 : ℤ) else 0) ≤ 1 := by
  split <;> norm_num

theorem ite_ofInt (P : Prop) [Decidable P] : (if P then 1#32 else 0#32) = BitVec.ofInt 32 (if P then 1 else 0) := by
  split <;> rfl

theorem shift_amount : ∀ e : Fin 31, (4294967295#32 - BitVec.ofInt 32 (-(e.val : ℤ) - 1)).toNat = e.val := by decide +kernel

theorem shift_neg : ∀ e : Fin 31, (-(BitVec.ofInt 32 (-(e.val : ℤ) - 1))).toNat = e.val + 1 := by decide +kernel

theorem mask_half : ∀ e : Fin 31, ((1#32 <<< (e.val + 1)) - 1#32).sshiftRight 1 = BitVec.ofInt 32 (2 ^ e.val - 1) := by decide +kernel

theorem round_eq (q shift : BitVec 32) (hq : -2147483647 ≤ q.toInt) (hq2 : q.toInt ≤ 2147483646 ∨ shift ≠ 4294967295#32) (hs : -31 ≤ shift.toInt ∧ shift.toInt ≤ -1) : roundS q shift = roundR q shift := by
  obtain ⟨e, he⟩ : ∃ e : Nat, shift.toInt = -(e : ℤ) - 1 := ⟨(-shift.toInt - 1).toNat, by omega⟩
  have he' : e ≤ 30 := by omega
  have hsh : shift = BitVec.ofInt 32 (-(e : ℤ) - 1) := by rw [← he, BitVec.ofInt_toInt]
  have hA : (4294967295#32 - shift).toNat = e := by
    rw [hsh]; exact shift_amount ⟨e, by omega⟩
  have hB : (-shift).toNat = e + 1 := by
    rw [hsh]; exact shift_neg ⟨e, by omega⟩
  have p0 : (0 : ℤ) < 2 ^ e := by positivity
  have p1 : (2 : ℤ) ^ e ≤ 2 ^ 30 := pow_le_pow_right₀ (by norm_num) he'
  norm_num at p1
  have hlt := BitVec.toInt_lt (x := q)
  norm_num at hlt
  have hr := round_nat q.toInt (2 ^ e) p0
  apply BitVec.eq_of_toInt_eq
  have hsgn : (q + q.sshiftRight 31).toInt = q.toInt + (if q.toInt < 0 then -1 else 0) := by
    refine toInt_of_range _ _ ?_ (by split <;> omega) (by split <;> omega)
    rw [BitVec.ofInt_add, ← ofInt_toInt']
    refine congrArg (fun z => q + z) ?_
    have h := toInt_sshr q 31
    have h2 : q.toInt / 2 ^ 31 = (if q.toInt < 0 then -1 else 0) := by
      norm_num
      split <;> omega
    rw [ofInt_toInt' (q.sshiftRight 31), h, h2]
  have hS : (roundS q shift).toInt = ((q.toInt + (if q.toInt < 0 then -1 else 0)) / 2 ^ e + 1) / 2 := by
    unfold roundS IntOp.shrsi
    rw [if_pos (by rw [hA]; omega), BitVec.sshiftRight', hA, toInt_sshr]
    have h := toInt_sshr (q + q.sshiftRight 31) e
    rw [hsgn] at h
    have b1 : -2147483648 ≤ (q.toInt + (if q.toInt < 0 then -1 else 0)) / 2 ^ e := by
      rw [Int.le_ediv_iff_mul_le p0]; split <;> nlinarith
    have b2 : (q.toInt + (if q.toInt < 0 then -1 else 0)) / 2 ^ e ≤ 2147483646 := by
      rcases hq2 with h2 | h2
      · refine le_trans (Int.ediv_le_ediv p0 (show _ ≤ (2147483646 : ℤ) from ?_)) (Int.ediv_le_self _ (by norm_num))
        split <;> omega
      · have e0 : e ≠ 0 := by
          rintro rfl
          exact h2 (hsh.trans (by decide))
        have p2 : (2 : ℤ) ≤ 2 ^ e := by
          calc (2 : ℤ) = 2 ^ 1 := by norm_num
            _ ≤ 2 ^ e := pow_le_pow_right₀ (by norm_num) (by omega)
        refine Int.le_of_lt_add_one ((Int.ediv_lt_iff_lt_mul p0).mpr ?_)
        split <;> nlinarith
    rw [toInt_of_range ((q + q.sshiftRight 31).sshiftRight e + 1#32) ((q.toInt + (if q.toInt < 0 then -1 else 0)) / 2 ^ e + 1) ?_ (by omega) (by omega)]
    · norm_num
    · rw [BitVec.ofInt_add, ← h, ← ofInt_toInt']; rfl
  rw [hS, hr]
  symm
  have hm := toNat_mask q (e + 1) (by omega)
  have hM : ((1#32 <<< (e + 1)) - 1#32).sshiftRight 1 = BitVec.ofInt 32 (2 ^ e - 1) := mask_half ⟨e, by omega⟩
  have p3 : (2 : ℤ) ^ (e + 1) = 2 * 2 ^ e := by ring
  have hand : (q &&& ((1#32 <<< (e + 1)) - 1#32)).toInt = q.toInt % (2 * 2 ^ e) := by
    have hq0 := q.isLt
    have hlt2 : q.toNat % 2 ^ (e + 1) < 2 ^ (e + 1) := Nat.mod_lt _ (by positivity)
    have hle : 2 ^ (e + 1) ≤ 2 ^ 31 := Nat.pow_le_pow_right (by norm_num) (by omega)
    rw [BitVec.toInt_eq_toNat_of_lt (by rw [hm]; omega), hm, BitVec.toInt_eq_toNat_cond, ← p3]
    push_cast
    split
    · rfl
    · have hd : (2 : ℤ) ^ (e + 1) ∣ 2 ^ 32 := pow_dvd_pow _ (by omega)
      have hd2 : (2 : ℤ) ^ (e + 1) ∣ 4294967296 := hd
      rw [Int.sub_emod, Int.emod_eq_zero_of_dvd hd2]
      simp
  unfold roundR
  dsimp only
  rw [hB, hM, hand]
  have hth : (BitVec.ofInt 32 (2 ^ e - 1) + (if q.toInt < 0 then 1#32 else 0#32)).toInt = 2 ^ e - 1 + (if q.toInt < 0 then 1 else 0) := by
    refine toInt_of_range _ _ ?_ (by split <;> omega) (by split <;> omega)
    rw [BitVec.ofInt_add]
    refine congrArg (fun z => BitVec.ofInt 32 (2 ^ e - 1) + z) ?_
    split <;> rfl
  rw [hth]
  have hd := toInt_sshr q (e + 1)
  rw [p3] at hd
  have c1 := Int.ediv_le_ediv (show (0 : ℤ) < 2 * 2 ^ e by omega) hlt.le
  have hb : -1073741824 ≤ q.toInt / (2 * 2 ^ e) ∧ q.toInt / (2 * 2 ^ e) ≤ 1073741823 := by
    constructor
    · rw [Int.le_ediv_iff_mul_le (by omega)]; nlinarith
    · refine Int.le_of_lt_add_one ((Int.ediv_lt_iff_lt_mul (by omega)).mpr ?_); nlinarith
  have h01 := ite01 (2 ^ e - 1 + (if q.toInt < 0 then 1 else 0) < q.toInt % (2 * 2 ^ e))
  refine toInt_of_range _ _ ?_ (le_trans (by norm_num) (add_le_add hb.1 h01.1)) (le_trans (add_le_add hb.2 h01.2) (by norm_num))
  rw [BitVec.ofInt_add, ← hd, ← ofInt_toInt']
  exact congrArg (fun z => q.sshiftRight (e + 1) + z) (ite_ofInt _)

theorem highMul_bound2 (acc mult : BitVec 32) (hm : mult ≠ 2147483648#32) (hm2 : mult ≠ 2147483649#32) : (highMulS acc mult).toInt ≤ 2147483646 := by
  have a1 := BitVec.le_toInt acc
  have a2 := BitVec.toInt_lt (x := acc)
  have m1 := BitVec.le_toInt mult
  have m2 := BitVec.toInt_lt (x := mult)
  have m3 : mult.toInt ≠ -2147483648 := fun h => hm (BitVec.eq_of_toInt_eq (h.trans (by decide)))
  have m4 : mult.toInt ≠ -2147483647 := fun h => hm2 (BitVec.eq_of_toInt_eq (h.trans (by decide)))
  norm_num at a1 a2 m1 m2
  have m5 : -2147483646 ≤ mult.toInt := by omega
  have p1 : -(2147483648 * 2147483647) ≤ acc.toInt * mult.toInt := by nlinarith
  have p2 : acc.toInt * mult.toInt ≤ 2147483647 * 2147483647 := by
    rcases le_or_gt 0 acc.toInt with h | h
    · nlinarith
    · nlinarith
  have e : highInt acc.toInt mult.toInt = (acc.toInt * mult.toInt + 1073741824) / 2147483648 := by unfold highInt; norm_num
  rw [toInt_of_range _ _ (highMulS_eq acc mult) (by rw [e]; omega) (by rw [e]; omega), e]
  omega

/-- The output code as the reference computes it. -/
def codeR (acc mult shift zo : BitVec 32) : BitVec 32 :=
  IntOp.minsi 127#32 (IntOp.maxsi 4294967168#32 (roundR (highMulR acc mult) shift + zo))

theorem code_eq (acc mult shift zo : BitVec 32) (hm : mult ≠ 2147483648#32) (hm2 : mult ≠ 2147483649#32 ∨ shift ≠ 4294967295#32)
    (hs : -31 ≤ shift.toInt ∧ shift.toInt ≤ -1) : codeS acc mult shift zo = codeR acc mult shift zo := by
  unfold codeS codeR
  rw [round_eq _ _ (highMul_bound acc mult hm) (hm2.imp (highMul_bound2 acc mult hm) id) hs, highMulS_eq, highMulR_eq]

end Cert.Conv
-- ==== Proof.R1.lean ====
module

public import proofs.«01_k».proof.Proof.Gen.ReferenceIdeal.Run
public import proofs.«01_k».proof.Proof.S2
public import Idealize.ShloMosaic.Lib.Claim
public import Idealize.ShloMosaic.Lib.Tactic.CleanTypes
public import Idealize.ShloMosaic.Lib.Pipeline.ValueKit

@[expose] public section

set_option maxRecDepth 16384

noncomputable section

namespace Cert.Ref

open Idealize.ShloMosaic Idealize.ShloMosaic.TcCoe Idealize.ShloMosaic.Tactic Idealize.ShloMosaic.StableHlo
open Cert.ReferenceIdeal Cert.ReferenceIdeal.Gen Cert.ReferenceIdeal.Value
open Cert.Conv (nibCode)

/-! ### The reference's sums as integers -/

/-- The padded image as an integer: outside the image, the zero point. -/
def padIn (x : S6x14x10x1280.Idx → BitVec 8) (z : ℤ) (b : Fin 6) (r p c : Nat) : ℤ :=
  if h : r < 14 ∧ p < 10 ∧ c < 1280 then (x (ix4 b ⟨r, h.1⟩ ⟨p, h.2.1⟩ ⟨c, h.2.2⟩)).toInt else z

/-- The signed nibble of a byte. -/
def nib (half : Nat) (b : BitVec 8) : ℤ := (nibCode half b : ℤ) - 8

/-- One tap's sum over one half of the channels. -/
def tapR (half : Nat) (x : S6x14x10x1280.Idx → BitVec 8) (z : ℤ) (w : S1920x3x3x640.Idx → BitVec 8) (b : Fin 6) (r p : Nat) (co : Fin 1920) (kh kw : Fin 3) : ℤ :=
  ∑ j : Fin 640, padIn x z b r p (2 * j.val + half) * nib half (w (ix4 co kh kw j))

/-- The sum of one output channel's weights over one half of the channels. -/
def wsumR (half : Nat) (w : S1920x3x3x640.Idx → BitVec 8) (co : Fin 1920) : ℤ :=
  ∑ kh : Fin 3, ∑ kw : Fin 3, ∑ j : Fin 640, nib half (w (ix4 co kh kw j))

theorem fold_addi {ι : Type} (s : Finset ι) (f : ι → ℤ) :
    Finset.fold IntOp.addi (0#32) (fun i => BitVec.ofInt 32 (f i)) s = BitVec.ofInt 32 (∑ i ∈ s, f i) := by
  classical
  induction s using Finset.induction_on with
  | empty => rfl
  | insert a s ha ih =>
    rw [Finset.fold_insert ha, ih, Finset.sum_insert ha, BitVec.ofInt_add]
    rfl

theorem nibLo : ∀ b : Fin 256, BitVec.signExtend 32 (BitVec.setWidth 8
        (Scalar.select (IntOp.cmpi CmpIPredicate.sge (IntOp.andi (BitVec.setWidth 32 (BitVec.ofFin b : BitVec 8)) 15#32) 8#32)
          (IntOp.subi (IntOp.andi (BitVec.setWidth 32 (BitVec.ofFin b : BitVec 8)) 15#32) 16#32) (IntOp.andi (BitVec.setWidth 32 (BitVec.ofFin b : BitVec 8)) 15#32))) =
    BitVec.ofInt 32 ((nibCode 0 (BitVec.ofFin b) : ℤ) - 8) := by decide +kernel

theorem nibHi : ∀ b : Fin 256, BitVec.signExtend 32 (BitVec.setWidth 8
        (Scalar.select (IntOp.cmpi CmpIPredicate.sge (IntOp.shrsi .host (BitVec.setWidth 32 (BitVec.ofFin b : BitVec 8)) 4#32) 8#32)
          (IntOp.subi (IntOp.shrsi .host (BitVec.setWidth 32 (BitVec.ofFin b : BitVec 8)) 4#32) 16#32) (IntOp.shrsi .host (BitVec.setWidth 32 (BitVec.ofFin b : BitVec 8)) 4#32))) =
    BitVec.ofInt 32 ((nibCode 1 (BitVec.ofFin b) : ℤ) - 8) := by decide +kernel

variable (V0 : Valuation τ sig (Elt Ideal))

/-- The image. -/
def aX : S6x14x10x1280.Idx → BitVec 8 := V0 (Proc.devRef .tc main_arg0)
/-- The input zero point. -/
def aZ : BitVec 32 := (V0 (Proc.devRef .tc main_arg1) : S1.Idx → BitVec 32) (ix1 0)
/-- The packed weights. -/
def aW : S1920x3x3x640.Idx → BitVec 8 := V0 (Proc.devRef .tc main_arg2)
/-- The bias. -/
def aB : S1920.Idx → BitVec 32 := V0 (Proc.devRef .tc main_arg3)
/-- The output multipliers. -/
def aM : S1920.Idx → BitVec 32 := V0 (Proc.devRef .tc main_arg4)
/-- The output shifts. -/
def aS : S1920.Idx → BitVec 32 := V0 (Proc.devRef .tc main_arg5)
/-- The output zero point. -/
def aO : BitVec 32 := (V0 (Proc.devRef .tc main_arg6) : S1.Idx → BitVec 32) (ix1 0)

theorem v0_apply (i : S_.Idx) : res_main_v0 V0 i = aZ V0 := by
  unfold res_main_v0
  clean_types
  pointwise
  rfl

theorem v23_apply (i : S1920x3x3x640.Idx) : res_main_v23 V0 i = BitVec.ofInt 32 (nib 0 (aW V0 i)) := by
  unfold res_main_v23 res_main_v12 res_main_v6 res_main_v4
  clean_types
  pointwise
  exact nibLo (aW V0 i).toFin

theorem v117_apply (i : S1920x3x3x640.Idx) : res_main_v117 V0 i = BitVec.ofInt 32 (nib 1 (aW V0 i)) := by
  unfold res_main_v117 res_main_v20 res_main_v14 res_main_v4
  clean_types
  pointwise
  exact nibHi (aW V0 i).toFin

theorem sext8 (b : BitVec 8) : BitVec.signExtend 32 b = BitVec.ofInt 32 b.toInt := by
  rfl

theorem small (z : BitVec 32) (hz : -128 ≤ z.toInt ∧ z.toInt ≤ 127) : (BitVec.setWidth 8 z).toInt = z.toInt := by
  have h : z = BitVec.ofInt 32 z.toInt := (BitVec.ofInt_toInt).symm
  rw [BitVec.toInt_setWidth]
  have h2 := z.isLt
  rw [BitVec.toInt_eq_toNat_cond] at hz ⊢
  rw [Int.bmod_def]
  norm_num at h2 ⊢
  split at hz <;> split <;> omega

variable (hz : -128 ≤ (aZ V0).toInt ∧ (aZ V0).toInt ≤ 127)

include hz in
theorem v3_apply (b : Fin 6) (r : Fin 15) (p : Fin 11) (c : Fin 1280) : (res_main_v3 V0 (ix4 b r p c) : BitVec 8).toInt = padIn (aX V0) (aZ V0).toInt b r.val p.val c.val := by
  unfold res_main_v3
  clean_types
  pointwise
  rw [v0_apply]
  unfold padIn
  have hc := c.isLt
  by_cases h : r.val < 14 ∧ p.val < 10
  · rw [dif_pos h, dif_pos ⟨h.1, h.2, hc⟩]; rfl
  · rw [dif_neg h, dif_neg (fun h' => h ⟨h'.1, h'.2.1⟩)]; exact small _ hz

include hz in
theorem v22_apply (b : Fin 6) (r : Fin 15) (p : Fin 11) (j : Fin 640) : res_main_v22 V0 (ix4 b r p j) =
    BitVec.ofInt 32 (padIn (aX V0) (aZ V0).toInt b r.val p.val (2 * j.val)) := by
  unfold res_main_v22
  clean_types
  pointwise
  rw [sext8, v3_apply V0 hz]

include hz in
theorem v116_apply (b : Fin 6) (r : Fin 15) (p : Fin 11) (j : Fin 640) : res_main_v116 V0 (ix4 b r p j) =
    BitVec.ofInt 32 (padIn (aX V0) (aZ V0).toInt b r.val p.val (2 * j.val + 1)) := by
  unfold res_main_v116
  clean_types
  pointwise
  rw [sext8, v3_apply V0 hz]
  show BitVec.ofInt 32 (padIn (aX V0) (aZ V0).toInt b r.val p.val (1 + 2 * j.val)) = _
  rw [Nat.add_comm]

include hz in
theorem fold22 (b : Fin 6) (r : Fin 15) (p : Fin 11) (co : Fin 1920) (kh kw : Fin 3) :
    Finset.fold IntOp.addi (0#32) (fun j => IntOp.muli (res_main_v22 V0 (ix4 b r p j)) (res_main_v23 V0 (ix4 co kh kw j))) Finset.univ =
      BitVec.ofInt 32 (tapR 0 (aX V0) (aZ V0).toInt (aW V0) b r.val p.val co kh kw) := by
  unfold tapR
  rw [← fold_addi]
  congr 1
  funext j
  rw [v22_apply V0 hz, v23_apply]
  exact (BitVec.ofInt_mul _ _).symm

include hz in
theorem fold116 (b : Fin 6) (r : Fin 15) (p : Fin 11) (co : Fin 1920) (kh kw : Fin 3) :
    Finset.fold IntOp.addi (0#32) (fun j => IntOp.muli (res_main_v116 V0 (ix4 b r p j)) (res_main_v117 V0 (ix4 co kh kw j))) Finset.univ =
      BitVec.ofInt 32 (tapR 1 (aX V0) (aZ V0).toInt (aW V0) b r.val p.val co kh kw) := by
  unfold tapR
  rw [← fold_addi]
  congr 1
  funext j
  rw [v116_apply V0 hz, v117_apply]
  exact (BitVec.ofInt_mul _ _).symm

theorem addi_ofInt (a b : ℤ) : IntOp.addi (BitVec.ofInt 32 a) (BitVec.ofInt 32 b) = BitVec.ofInt 32 (a + b) := (BitVec.ofInt_add a b).symm

/-- The eighteen taps added in the reference's order. -/
theorem tree_sum (t : Fin 2 → Fin 3 → Fin 3 → ℤ) (T : Fin 2 → Fin 3 → Fin 3 → BitVec 32) (hT : ∀ h a b, T h a b = BitVec.ofInt 32 (t h a b)) :
    (IntOp.addi (IntOp.addi (IntOp.addi (IntOp.addi (IntOp.addi (IntOp.addi (IntOp.addi (IntOp.addi (IntOp.addi (IntOp.addi (BitVec.ofInt 32 0) (T 0 0 0)) (T 0 0 1)) (T 0 0 2)) (T 0 1 0)) (T 0 1 1)) (T 0 1 2)) (T 0 2 0)) (T 0 2 1)) (T 0 2 2)) (IntOp.addi (IntOp.addi (IntOp.addi (IntOp.addi (IntOp.addi (IntOp.addi (IntOp.addi (IntOp.addi (IntOp.addi (BitVec.ofInt 32 0) (T 1 0 0)) (T 1 0 1)) (T 1 0 2)) (T 1 1 0)) (T 1 1 1)) (T 1 1 2)) (T 1 2 0)) (T 1 2 1)) (T 1 2 2))) = BitVec.ofInt 32 (∑ kh : Fin 3, ∑ kw : Fin 3, (t 0 kh kw + t 1 kh kw)) := by
  simp only [hT, addi_ofInt, Fin.sum_univ_three]
  congr 1
  ring

include hz in
theorem tap22 (b : Fin 6) (r p : Nat) (co : Fin 1920) (kh kw : Fin 3) (hr : r < 15) (hp : p < 11) :
    Finset.fold IntOp.addi (0#32) (fun j => IntOp.muli (res_main_v22 V0 (ix4 b ⟨r, hr⟩ ⟨p, hp⟩ j)) (res_main_v23 V0 (ix4 co kh kw j))) Finset.univ =
      BitVec.ofInt 32 (tapR 0 (aX V0) (aZ V0).toInt (aW V0) b r p co kh kw) := fold22 V0 hz b ⟨r, hr⟩ ⟨p, hp⟩ co kh kw

include hz in
theorem tap116 (b : Fin 6) (r p : Nat) (co : Fin 1920) (kh kw : Fin 3) (hr : r < 15) (hp : p < 11) :
    Finset.fold IntOp.addi (0#32) (fun j => IntOp.muli (res_main_v116 V0 (ix4 b ⟨r, hr⟩ ⟨p, hp⟩ j)) (res_main_v117 V0 (ix4 co kh kw j))) Finset.univ =
      BitVec.ofInt 32 (tapR 1 (aX V0) (aZ V0).toInt (aW V0) b r p co kh kw) := fold116 V0 hz b ⟨r, hr⟩ ⟨p, hp⟩ co kh kw

/-- The reference's accumulator before the bias. -/
def rv209 : S6x7x5x1920.Idx → BitVec 32 := res_main_v209 V0
/-- The reference's accumulator. -/
def rv220 : S6x7x5x1920.Idx → BitVec 32 := res_main_v220 V0

include hz in
theorem v209_apply (i : S6x7x5x1920.Idx) : rv209 V0 i =
    BitVec.ofInt 32 (∑ kh : Fin 3, ∑ kw : Fin 3,
      (tapR 0 (aX V0) (aZ V0).toInt (aW V0) (i 0) (kh.val + 2 * (i 1).val) (kw.val + 2 * (i 2).val) (i 3) kh kw +
        tapR 1 (aX V0) (aZ V0).toInt (aW V0) (i 0) (kh.val + 2 * (i 1).val) (kw.val + 2 * (i 2).val) (i 3) kh kw)) := by
  refine Eq.trans ?_ (tree_sum
    (fun h kh kw => tapR h.val (aX V0) (aZ V0).toInt (aW V0) (i 0) (kh.val + 2 * (i 1).val) (kw.val + 2 * (i 2).val) (i 3) kh kw)
    (fun h kh kw => BitVec.ofInt 32 (tapR h.val (aX V0) (aZ V0).toInt (aW V0) (i 0) (kh.val + 2 * (i 1).val) (kw.val + 2 * (i 2).val) (i 3) kh kw)) (fun _ _ _ => rfl))
  have h1 : (i 1).val < 7 := (i 1).isLt
  have h2 : (i 2).val < 5 := (i 2).isLt
  unfold rv209 res_main_v209 res_main_v84 res_main_v178
  clean_types
  pointwise
  repeat' refine congrArg₂ IntOp.addi ?_ ?_
  · rfl
  · have h := tap22 V0 hz (i 0) (2 * (i 1).val) (2 * (i 2).val) (i 3) 0 0 (by omega) (by omega)
    with_reducible exact h
  · have h := tap22 V0 hz (i 0) (2 * (i 1).val) (1 + 2 * (i 2).val) (i 3) 0 1 (by omega) (by omega)
    with_reducible exact h
  · have h := tap22 V0 hz (i 0) (2 * (i 1).val) (2 + 2 * (i 2).val) (i 3) 0 2 (by omega) (by omega)
    with_reducible exact h
  · have h := tap22 V0 hz (i 0) (1 + 2 * (i 1).val) (2 * (i 2).val) (i 3) 1 0 (by omega) (by omega)
    with_reducible exact h
  · have h := tap22 V0 hz (i 0) (1 + 2 * (i 1).val) (1 + 2 * (i 2).val) (i 3) 1 1 (by omega) (by omega)
    with_reducible exact h
  · have h := tap22 V0 hz (i 0) (1 + 2 * (i 1).val) (2 + 2 * (i 2).val) (i 3) 1 2 (by omega) (by omega)
    with_reducible exact h
  · have h := tap22 V0 hz (i 0) (2 + 2 * (i 1).val) (2 * (i 2).val) (i 3) 2 0 (by omega) (by omega)
    with_reducible exact h
  · have h := tap22 V0 hz (i 0) (2 + 2 * (i 1).val) (1 + 2 * (i 2).val) (i 3) 2 1 (by omega) (by omega)
    with_reducible exact h
  · have h := tap22 V0 hz (i 0) (2 + 2 * (i 1).val) (2 + 2 * (i 2).val) (i 3) 2 2 (by omega) (by omega)
    with_reducible exact h
  · rfl
  · have h := tap116 V0 hz (i 0) (2 * (i 1).val) (2 * (i 2).val) (i 3) 0 0 (by omega) (by omega)
    with_reducible exact h
  · have h := tap116 V0 hz (i 0) (2 * (i 1).val) (1 + 2 * (i 2).val) (i 3) 0 1 (by omega) (by omega)
    with_reducible exact h
  · have h := tap116 V0 hz (i 0) (2 * (i 1).val) (2 + 2 * (i 2).val) (i 3) 0 2 (by omega) (by omega)
    with_reducible exact h
  · have h := tap116 V0 hz (i 0) (1 + 2 * (i 1).val) (2 * (i 2).val) (i 3) 1 0 (by omega) (by omega)
    with_reducible exact h
  · have h := tap116 V0 hz (i 0) (1 + 2 * (i 1).val) (1 + 2 * (i 2).val) (i 3) 1 1 (by omega) (by omega)
    with_reducible exact h
  · have h := tap116 V0 hz (i 0) (1 + 2 * (i 1).val) (2 + 2 * (i 2).val) (i 3) 1 2 (by omega) (by omega)
    with_reducible exact h
  · have h := tap116 V0 hz (i 0) (2 + 2 * (i 1).val) (2 * (i 2).val) (i 3) 2 0 (by omega) (by omega)
    with_reducible exact h
  · have h := tap116 V0 hz (i 0) (2 + 2 * (i 1).val) (1 + 2 * (i 2).val) (i 3) 2 1 (by omega) (by omega)
    with_reducible exact h
  · have h := tap116 V0 hz (i 0) (2 + 2 * (i 1).val) (2 + 2 * (i 2).val) (i 3) 2 2 (by omega) (by omega)
    with_reducible exact h

theorem drop_ix4 (co : Fin 1920) (kh kw : Fin 3) (j : Fin 640) : reducesTo_S1920x3x3x640_S1920_d1_2_3.drop (ix4 co kh kw j) = ix1 co := by
  funext a
  fin_cases a
  exact Fin.ext (reducesTo_S1920x3x3x640_S1920_d1_2_3.drop_apply_val_of_eq (ix4 co kh kw j) 0 0 (by decide))

theorem drop_inj (co : Fin 1920) (i : S1920x3x3x640.Idx) (h : reducesTo_S1920x3x3x640_S1920_d1_2_3.drop i = ix1 co) :
    i = ix4 co (i 1 : Fin 3) (i 2 : Fin 3) (i 3 : Fin 640) := by
  have h0 := congrArg (fun f : S1920.Idx => (f 0).val) h
  dsimp only at h0
  rw [reducesTo_S1920x3x3x640_S1920_d1_2_3.drop_apply_val_of_eq _ 0 0 (by decide)] at h0
  funext a
  fin_cases a
  · exact Fin.ext h0
  · rfl
  · rfl
  · rfl

theorem wfold (half : Nat) (u : S1920x3x3x640.Idx → BitVec 32) (hu : ∀ i, u i = BitVec.ofInt 32 (nib half (aW V0 i))) (co : Fin 1920) :
    Finset.fold IntOp.addi (0#32) u (Finset.univ.filter fun i => reducesTo_S1920x3x3x640_S1920_d1_2_3.drop i = ix1 co) =
      BitVec.ofInt 32 (wsumR half (aW V0) co) := by
  rw [show u = fun i => BitVec.ofInt 32 (nib half (aW V0 i)) from funext hu, fold_addi]
  congr 1
  unfold wsumR
  rw [← Finset.sum_product', ← Finset.sum_product']
  refine Finset.sum_nbij' (fun i => (((i 1 : Fin 3), (i 2 : Fin 3)), (i 3 : Fin 640))) (fun q => ix4 co q.1.1 q.1.2 q.2) ?_ ?_ ?_ ?_ ?_
  · intro i _; simp
  · intro q _
    rw [Finset.mem_filter]
    exact ⟨Finset.mem_univ _, drop_ix4 co q.1.1 q.1.2 q.2⟩
  · intro i hi
    exact (drop_inj co i (Finset.mem_filter.mp hi).2).symm
  · intro q _; rfl
  · intro i hi
    exact congrArg (fun k => nib half (aW V0 k)) (drop_inj co i (Finset.mem_filter.mp hi).2)

theorem v220_apply (b : Fin 6) (ho : Fin 7) (wo : Fin 5) (co : Fin 1920) : rv220 V0 (ix4 b ho wo co) =
    rv209 V0 (ix4 b ho wo co) + (aB V0 (ix1 co) - aZ V0 * BitVec.ofInt 32 (wsumR 0 (aW V0) co + wsumR 1 (aW V0) co)) := by
  rw [show BitVec.ofInt 32 (wsumR 0 (aW V0) co + wsumR 1 (aW V0) co) =
    IntOp.addi (BitVec.ofInt 32 (wsumR 0 (aW V0) co)) (BitVec.ofInt 32 (wsumR 1 (aW V0) co)) from (addi_ofInt _ _).symm,
    ← wfold V0 0 (res_main_v23 V0) (fun i => v23_apply V0 i), ← wfold V0 1 (res_main_v117 V0) (fun i => v117_apply V0 i), ← v0_apply]
  unfold rv220 res_main_v220
  clean_types
  pointwise
  rfl

theorem v222_apply (i : S6x7x5x1920.Idx) : res_main_v222 V0 i = (rv220 V0 i).sshiftRight 16 := by
  unfold res_main_v222
  clean_types
  pointwise
  rfl

theorem v224_apply (i : S6x7x5x1920.Idx) : res_main_v224 V0 i = rv220 V0 i &&& 65535#32 := by
  unfold res_main_v224
  clean_types
  pointwise
  rfl

theorem v226_apply (i : S1920.Idx) : res_main_v226 V0 i = (aM V0 i).sshiftRight 16 := by
  unfold res_main_v226
  clean_types
  pointwise
  rfl

theorem v228_apply (i : S1920.Idx) : res_main_v228 V0 i = aM V0 i &&& 65535#32 := by
  unfold res_main_v228
  clean_types
  pointwise
  rfl

theorem v234_apply (b : Fin 6) (ho : Fin 7) (wo : Fin 5) (co : Fin 1920) : res_main_v234 V0 (ix4 b ho wo co) =
    (rv220 V0 (ix4 b ho wo co) &&& 65535#32) * (aM V0 (ix1 co)).sshiftRight 16 := by
  rw [← v224_apply, ← v226_apply]
  unfold res_main_v234
  clean_types
  pointwise
  rfl

theorem v237_apply (b : Fin 6) (ho : Fin 7) (wo : Fin 5) (co : Fin 1920) : res_main_v237 V0 (ix4 b ho wo co) =
    (rv220 V0 (ix4 b ho wo co)).sshiftRight 16 * (aM V0 (ix1 co) &&& 65535#32) := by
  rw [← v222_apply, ← v228_apply]
  unfold res_main_v237
  clean_types
  pointwise
  rfl

theorem v264_apply (b : Fin 6) (ho : Fin 7) (wo : Fin 5) (co : Fin 1920) : res_main_v264 V0 (ix4 b ho wo co) =
    Cert.Conv.highMulR (rv220 V0 (ix4 b ho wo co)) (aM V0 (ix1 co)) := by
  unfold Cert.Conv.highMulR
  dsimp only
  rw [← v237_apply, ← v234_apply, ← v222_apply, ← v224_apply, ← v226_apply, ← v228_apply]
  unfold res_main_v264
  simp only [id]
  clean_types
  pointwise
  rfl

theorem one_sub (e : BitVec 32) (he : e.toNat < 32) : IntOp.subi (IntOp.shli .host (1#32) e) 1#32 = (1#32 <<< e.toNat) - 1#32 := by
  unfold IntOp.shli
  rw [if_pos he]; rfl

theorem lt_ite (a b : BitVec 32) : BitVec.setWidth 32 (IntOp.cmpi CmpIPredicate.slt a b) = if a.toInt < b.toInt then 1#32 else 0#32 := by
  by_cases h : a.toInt < b.toInt
  · rw [if_pos h]
    unfold IntOp.cmpi
    simp [BitVec.slt, h]
  · rw [if_neg h]
    unfold IntOp.cmpi
    simp [BitVec.slt, h]

theorem gt_ite (a b : BitVec 32) : BitVec.setWidth 32 (IntOp.cmpi CmpIPredicate.sgt a b) = if b.toInt < a.toInt then 1#32 else 0#32 := by
  by_cases h : b.toInt < a.toInt
  · rw [if_pos h]
    unfold IntOp.cmpi
    simp [BitVec.slt, h]
  · rw [if_neg h]
    unfold IntOp.cmpi
    simp [BitVec.slt, h]

theorem clip_eq (q s : BitVec 32) (hs : (-s).toNat < 32) (zo : BitVec 32) (acc mult : BitVec 32) (hq : q = Cert.Conv.highMulR acc mult) :
    IntOp.minsi (127#32) (IntOp.maxsi (4294967168#32) (IntOp.addi (IntOp.addi (IntOp.shrsi ArithUnit.host q (-s))
      (BitVec.setWidth 32 (IntOp.cmpi CmpIPredicate.sgt (IntOp.andi q (IntOp.subi (IntOp.shli ArithUnit.host (1#32) (-s)) 1#32))
        (IntOp.addi (IntOp.shrsi ArithUnit.host (IntOp.subi (IntOp.shli ArithUnit.host (1#32) (-s)) 1#32) 1#32)
          (BitVec.setWidth 32 (IntOp.cmpi CmpIPredicate.slt q 0#32)))))) zo)) = Cert.Conv.codeR acc mult s zo := by
  rw [one_sub _ hs, lt_ite, gt_ite]
  unfold Cert.Conv.codeR Cert.Conv.roundR
  rw [← hq]
  dsimp only
  unfold IntOp.shrsi
  rw [if_pos hs, if_pos (show (1#32).toNat < 32 by decide)]
  rfl

/-- The reference's result. -/
theorem result_apply (b : Fin 6) (ho : Fin 7) (wo : Fin 5) (co : Fin 1920) (hs : (-(aS V0 (ix1 co))).toNat < 32) : val6 V0 (Proc.devRef .tc main_v290) (ix4 b ho wo co) =
    (Cert.Conv.codeR (rv220 V0 (ix4 b ho wo co)) (aM V0 (ix1 co)) (aS V0 (ix1 co)) (aO V0)).setWidth 8 := by
  rw [val6_main_v290]
  unfold res_main_v265 res_main_v269 res_main_v265
  simp only [id]
  clean_types
  pointwise
  rw [v264_apply]
  refine congrArg (BitVec.setWidth 8) (clip_eq _ _ hs _ _ _ rfl)

end Cert.Ref
-- ==== Proof.R2.lean ====
module

public import proofs.«01_k».proof.Proof.R1
public import proofs.«01_k».proof.Proof.V7

@[expose] public section

set_option maxRecDepth 16384

noncomputable section

namespace Cert.Ref

open Idealize.ShloMosaic Idealize.ShloMosaic.TcCoe Idealize.ShloMosaic.Tactic
open Cert.Conv

/-! ### The kernel's sum is the reference's -/

/-- A sum over the kernel's columns is one over the packed bytes and their halves. -/
theorem sum_columns (F : Nat → Nat → ℤ) :
    ∑ c : Fin 1280, F (128 * (c.val / 256) + c.val % 128) (c.val / 128 % 2) = ∑ j : Fin 640, (F j.val 0 + F j.val 1) := by
  have e : ∀ j : Fin 640, F j.val 0 + F j.val 1 = ∑ h : Fin 2, F j.val h.val := fun j => by rw [Fin.sum_univ_two]; rfl
  simp only [e]
  rw [← Finset.sum_product']
  refine Finset.sum_nbij' (fun c => ((⟨128 * (c.val / 256) + c.val % 128, by omega⟩ : Fin 640), (⟨c.val / 128 % 2, by omega⟩ : Fin 2)))
    (fun q => (⟨256 * (q.1.val / 128) + 128 * q.2.val + q.1.val % 128, by omega⟩ : Fin 1280)) ?_ ?_ ?_ ?_ ?_
  · intro c _; simp
  · intro q _; simp
  · intro c _; apply Fin.ext; simp only; omega
  · intro q _
    obtain ⟨j, h⟩ := q
    refine Prod.ext (Fin.ext ?_) (Fin.ext ?_) <;> simp only <;> omega
  · intro c _; rfl

variable (x : Cert.ReferenceIdeal.S6x14x10x1280.Idx → BitVec 8) (xt : Cert.KernelIdeal.S6x10x14x1280.Idx → BitVec 8)
  (hx : ∀ (b : Fin 6) (w : Fin 10) (h : Fin 14) (c : Fin 1280), xt (ix4 b w h c) = x (ix4 b h w c))

include hx in
/-- What a tap reads, as the padded image less the zero point. -/
theorem tapIn_eq (z : BitVec 32) (kh kw : Fin 3) (b : Fin 6) (ho : Fin 7) (wo : Fin 5) (c : Fin 1280) :
    tapIn xt z kh.val kw.val ho.val (wo.val * 6 + b.val) c.val =
      padIn x z.toInt b (kh.val + 2 * ho.val) (kw.val + 2 * wo.val) (2 * (128 * (c.val / 256) + c.val % 128) + c.val / 128 % 2) - z.toInt := by
  have hg : (wo.val * 6 + b.val + 6 * (kw.val / 2)) % 6 = b.val := by omega
  have hd : 2 * ((wo.val * 6 + b.val + 6 * (kw.val / 2)) / 6) + kw.val % 2 = kw.val + 2 * wo.val := by omega
  have hc : chanCol c.val = 2 * (128 * (c.val / 256) + c.val % 128) + c.val / 128 % 2 := by unfold chanCol; omega
  have hcl : 2 * (128 * (c.val / 256) + c.val % 128) + c.val / 128 % 2 < 1280 := by omega
  unfold tapIn left
  rw [hg, hd, hc, Nat.add_comm (2 * ho.val)]
  unfold padIn centred
  by_cases h : kh.val + 2 * ho.val < 14 ∧ kw.val + 2 * wo.val < 10
  · have h30 : wo.val * 6 + b.val + 6 * (kw.val / 2) < 30 := by omega
    rw [if_pos h30, dif_pos ⟨b.isLt, h.2, h.1, hcl⟩, dif_pos ⟨h.1, h.2, hcl⟩]
    exact congrArg (fun e : BitVec 8 => e.toInt - z.toInt) (hx b ⟨_, h.2⟩ ⟨_, h.1⟩ ⟨_, hcl⟩)
  · rw [dif_neg (fun h' => h ⟨h'.2.2.1, h'.2.1⟩), dif_neg (fun h' => h ⟨h'.1, h'.2.1⟩), ite_self, sub_self]

variable (w : Cert.ReferenceIdeal.S1920x3x3x640.Idx → BitVec 8) (wt : Cert.KernelIdeal.S3x3x1920x640.Idx → BitVec 8)
  (hw : ∀ (kh kw : Fin 3) (co : Fin 1920) (j : Fin 640), wt (ix4 kh kw co j) = w (ix4 co kh kw j))

include hx hw in
theorem convSum_eq (z : BitVec 32) (b : Fin 6) (ho : Fin 7) (wo : Fin 5) (co : Fin 1920) :
    convSum xt z (fun kh kw k => (wCode wt co.val kh kw k : ℤ) - 8) ho.val (wo.val * 6 + b.val) =
      (∑ kh : Fin 3, ∑ kw : Fin 3,
        (tapR 0 x z.toInt w b (kh.val + 2 * ho.val) (kw.val + 2 * wo.val) co kh kw +
          tapR 1 x z.toInt w b (kh.val + 2 * ho.val) (kw.val + 2 * wo.val) co kh kw)) - z.toInt * (wsumR 0 w co + wsumR 1 w co) := by
  unfold convSum tapR wsumR
  simp only [← Finset.sum_add_distrib, Finset.mul_sum, ← Finset.sum_sub_distrib]
  refine Finset.sum_congr rfl fun kh _ => Finset.sum_congr rfl fun kw _ => ?_
  refine (Finset.sum_congr rfl fun c _ => ?_).trans ((sum_columns fun j h =>
    (padIn x z.toInt b (kh.val + 2 * ho.val) (kw.val + 2 * wo.val) (2 * j + h) - z.toInt) *
      (if hj : j < 640 then nib h (w (ix4 co kh kw ⟨j, hj⟩)) else 0)).trans (Finset.sum_congr rfl fun j _ => ?_))
  · rw [tapIn_eq x xt hx]
    have hj : 128 * (c.val / 256) + c.val % 128 < 640 := by omega
    rw [dif_pos hj]
    unfold wCode nib
    rw [dif_pos co.isLt, hw]
  · rw [dif_pos j.isLt, dif_pos j.isLt]
    ring

theorem sub_add_swap (a b c : BitVec 32) : a - b + c = a + (c - b) := by
  rw [BitVec.sub_eq_add_neg, BitVec.sub_eq_add_neg, BitVec.add_assoc, BitVec.add_comm (-b) c]

/-- The kernel's code is the reference's. -/
theorem outN_eq (V0 : Valuation Cert.ReferenceIdeal.τ Cert.ReferenceIdeal.sig (Elt Idealize.ShloMosaic.Ideal))
    (xt : Cert.KernelIdeal.S6x10x14x1280.Idx → BitVec 8) (wt : Cert.KernelIdeal.S3x3x1920x640.Idx → BitVec 8)
    (bias mult shift : Cert.KernelIdeal.S1x1920.Idx → BitVec 32)
    (hx : ∀ (b : Fin 6) (w : Fin 10) (h : Fin 14) (c : Fin 1280), xt (ix4 b w h c) = aX V0 (ix4 b h w c))
    (hw : ∀ (kh kw : Fin 3) (co : Fin 1920) (j : Fin 640), wt (ix4 kh kw co j) = aW V0 (ix4 co kh kw j))
    (hb : ∀ co : Fin 1920, bias (ix2 0 co) = aB V0 (ix1 co)) (hm : ∀ co : Fin 1920, mult (ix2 0 co) = aM V0 (ix1 co))
    (hs : ∀ co : Fin 1920, shift (ix2 0 co) = aS V0 (ix1 co)) (hz : -128 ≤ (aZ V0).toInt ∧ (aZ V0).toInt ≤ 127)
    (b : Fin 6) (ho : Fin 7) (wo : Fin 5) (co : Fin 1920) (hm1 : aM V0 (ix1 co) ≠ 2147483648#32)
    (hm2 : aM V0 (ix1 co) ≠ 2147483649#32 ∨ aS V0 (ix1 co) ≠ 4294967295#32)
    (hs1 : -31 ≤ (aS V0 (ix1 co)).toInt ∧ (aS V0 (ix1 co)).toInt ≤ -1) :
    outN xt (aZ V0) (aO V0) wt bias mult shift ho.val (wo.val * 6 + b.val) co.val =
      codeR (rv220 V0 (ix4 b ho wo co)) (aM V0 (ix1 co)) (aS V0 (ix1 co)) (aO V0) := by
  unfold outN codeN
  have e1 : bias (ix2 0 ⟨co.val, co.isLt⟩) = aB V0 (ix1 co) := hb co
  have e2 : mult (ix2 0 ⟨co.val, co.isLt⟩) = aM V0 (ix1 co) := hm co
  have e3 : shift (ix2 0 ⟨co.val, co.isLt⟩) = aS V0 (ix1 co) := hs co
  dsimp only
  rw [dif_pos co.isLt, dif_pos co.isLt, dif_pos co.isLt, e1, e2, e3]
  refine Eq.trans ?_ (code_eq _ _ _ _ hm1 hm2 hs1)
  have acc : BitVec.ofInt 32 (convSum xt (aZ V0) (fun kh kw k => (wCode wt co.val kh kw k : ℤ) - 8) ho.val (wo.val * 6 + b.val)) + aB V0 (ix1 co) =
      rv220 V0 (ix4 b ho wo co) := by
    rw [convSum_eq (aX V0) xt hx (aW V0) wt hw, v220_apply, v209_apply V0 hz, ofInt_sub, BitVec.ofInt_mul, BitVec.ofInt_toInt]
    show _ = BitVec.ofInt 32 (∑ kh : Fin 3, ∑ kw : Fin 3,
        (tapR 0 (aX V0) (aZ V0).toInt (aW V0) b (kh.val + 2 * ho.val) (kw.val + 2 * wo.val) co kh kw +
          tapR 1 (aX V0) (aZ V0).toInt (aW V0) b (kh.val + 2 * ho.val) (kw.val + 2 * wo.val) co kh kw)) + _
    exact sub_add_swap _ _ _
  rw [← acc]

end Cert.Ref
-- ==== Proof.A1.lean ====
module

public import proofs.«01_k».proof.Defs
public import proofs.«01_k».proof.Proof.K1
public import proofs.«01_k».proof.Proof.R2
public import proofs.«01_k».proof.Proof.Gen.ReferenceIdeal.Run
public import Idealize.ShloMosaic.Lib.Tactic.CleanTypes

@[expose] public section

set_option maxRecDepth 16384

noncomputable section

namespace Cert.Proof

open Idealize.ShloMosaic Idealize.ShloMosaic.TcCoe Idealize.ShloMosaic.Tactic
open Idealize.SL.Sem Idealize.ShloMosaic.StableHlo
open Cert.Conv Cert.Ref

/-! ### The kernel's result is the reference's -/

/-- The precondition's own shape relations. -/
instance preFacts : Cert.Pre_in_range.Facts where
  bcast_S_S1 := by decide
  bcast_S_S1920 := by decide

/-- The zero point the precondition allows. -/
theorem pre_zero {a0 : IVec Cert.Pre_in_range.S6x14x10x1280 8} {a1 : IVec Cert.Pre_in_range.S1 32} {a2 : IVec Cert.Pre_in_range.S1920x3x3x640 8}
    {a3 a4 a5 : IVec Cert.Pre_in_range.S1920 32} {a6 : IVec Cert.Pre_in_range.S1 32}
    (h : (Cert.Pre_in_range.fn (F := Ideal) a0 a1 a2 a3 a4 a5 a6).1 = fun _ => 1#1) :
    -128 ≤ (a1 (ix1 0) : BitVec 32).toInt ∧ (a1 (ix1 0) : BitVec 32).toInt ≤ 127 := by
  have h0 : IntOp.andi (IntOp.cmpi .sge (a1 (ix1 0)) 4294967168#32) (IntOp.cmpi .sle (a1 (ix1 0)) 127#32) = 1#1 := congrFun h (ix1 0)
  rw [IntOp.andi_eq_one, IntOp.cmpi_sge, IntOp.cmpi_sle] at h0
  exact h0

/-- The shifts the precondition allows. -/
theorem pre_shift {a0 : IVec Cert.Pre_in_range.S6x14x10x1280 8} {a1 : IVec Cert.Pre_in_range.S1 32} {a2 : IVec Cert.Pre_in_range.S1920x3x3x640 8}
    {a3 a4 a5 : IVec Cert.Pre_in_range.S1920 32} {a6 : IVec Cert.Pre_in_range.S1 32}
    (h : (Cert.Pre_in_range.fn (F := Ideal) a0 a1 a2 a3 a4 a5 a6).2.1 = fun _ => 1#1) (co : Fin 1920) :
    -31 ≤ (a5 (ix1 co) : BitVec 32).toInt ∧ (a5 (ix1 co) : BitVec 32).toInt ≤ -1 := by
  have h0 : IntOp.andi (IntOp.cmpi .sge (a5 (ix1 co)) 4294967265#32) (IntOp.cmpi .sle (a5 (ix1 co)) 4294967295#32) = 1#1 := congrFun h (ix1 co)
  rw [IntOp.andi_eq_one, IntOp.cmpi_sge, IntOp.cmpi_sle] at h0
  exact h0

/-- No multiplier is the least word. -/
theorem pre_mult {a0 : IVec Cert.Pre_in_range.S6x14x10x1280 8} {a1 : IVec Cert.Pre_in_range.S1 32} {a2 : IVec Cert.Pre_in_range.S1920x3x3x640 8}
    {a3 a4 a5 : IVec Cert.Pre_in_range.S1920 32} {a6 : IVec Cert.Pre_in_range.S1 32}
    (h : (Cert.Pre_in_range.fn (F := Ideal) a0 a1 a2 a3 a4 a5 a6).2.2.1 = fun _ => 1#1) (co : Fin 1920) :
    (a4 (ix1 co) : BitVec 32) ≠ 2147483648#32 := by
  have h0 : IntOp.cmpi .ne (a4 (ix1 co)) 2147483648#32 = 1#1 := congrFun h (ix1 co)
  rw [IntOp.cmpi_ne] at h0
  exact h0

/-- The next multiplier does not come with a shift by one. -/
theorem pre_both {a0 : IVec Cert.Pre_in_range.S6x14x10x1280 8} {a1 : IVec Cert.Pre_in_range.S1 32} {a2 : IVec Cert.Pre_in_range.S1920x3x3x640 8}
    {a3 a4 a5 : IVec Cert.Pre_in_range.S1920 32} {a6 : IVec Cert.Pre_in_range.S1 32}
    (h : (Cert.Pre_in_range.fn (F := Ideal) a0 a1 a2 a3 a4 a5 a6).2.2.2 = fun _ => 1#1) (co : Fin 1920) :
    (a4 (ix1 co) : BitVec 32) ≠ 2147483649#32 ∨ (a5 (ix1 co) : BitVec 32) ≠ 4294967295#32 := by
  have h0 : IntOp.ori (IntOp.cmpi .ne (a4 (ix1 co)) 2147483649#32) (IntOp.cmpi .ne (a5 (ix1 co)) 4294967295#32) = 1#1 := congrFun h (ix1 co)
  rw [IntOp.ori_eq_one, IntOp.cmpi_ne, IntOp.cmpi_ne] at h0
  exact h0

/-- The shift amount the reference takes is one the machine can shift by. -/
theorem neg_shift (s : BitVec 32) (h : -31 ≤ s.toInt ∧ s.toInt ≤ -1) : (-s).toNat < 32 := by
  have h1 : (-s).toInt = -s.toInt := BitVec.toInt_neg_of_ne_intMin (by rintro rfl; revert h; decide)
  have h2 := BitVec.toInt_eq_toNat_cond (x := -s)
  split at h2 <;> omega

/-- The two results, of arguments in range that agree. -/
theorem result_eq (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (h0 : aX V0 = m ((c : Thread Cert.KernelIdeal.nD Cert.KernelIdeal.τ).loc Cert.KernelIdeal.main_arg0))
    (h1 : aZ V0 = (m ((c : Thread Cert.KernelIdeal.nD Cert.KernelIdeal.τ).loc Cert.KernelIdeal.main_arg1) : Cert.KernelIdeal.S1.Idx → BitVec 32) (ix1 0))
    (h2 : aW V0 = m ((c : Thread Cert.KernelIdeal.nD Cert.KernelIdeal.τ).loc Cert.KernelIdeal.main_arg2))
    (h3 : aB V0 = m ((c : Thread Cert.KernelIdeal.nD Cert.KernelIdeal.τ).loc Cert.KernelIdeal.main_arg3))
    (h4 : aM V0 = m ((c : Thread Cert.KernelIdeal.nD Cert.KernelIdeal.τ).loc Cert.KernelIdeal.main_arg4))
    (h5 : aS V0 = m ((c : Thread Cert.KernelIdeal.nD Cert.KernelIdeal.τ).loc Cert.KernelIdeal.main_arg5))
    (h6 : aO V0 = (m ((c : Thread Cert.KernelIdeal.nD Cert.KernelIdeal.τ).loc Cert.KernelIdeal.main_arg6) : Cert.KernelIdeal.S1.Idx → BitVec 32) (ix1 0))
    (hz : -128 ≤ (aZ V0).toInt ∧ (aZ V0).toInt ≤ 127)
    (hs : ∀ co : Fin 1920, -31 ≤ (aS V0 (ix1 co)).toInt ∧ (aS V0 (ix1 co)).toInt ≤ -1)
    (hm : ∀ co : Fin 1920, aM V0 (ix1 co) ≠ 2147483648#32)
    (hb : ∀ co : Fin 1920, aM V0 (ix1 co) ≠ 2147483649#32 ∨ aS V0 (ix1 co) ≠ 4294967295#32) :
    Cert.ReferenceIdeal.Value.val6 V0 (Proc.devRef .tc Cert.ReferenceIdeal.main_v290) =
      transpose Cert.KernelIdeal.S6x7x5x1920 [0, 2, 1, 3]
        (fun y : Cert.KernelIdeal.S6x5x7x1920.Idx => (outN (Cert.KernelIdeal.Gen.V m c Cert.KernelIdeal.main_v0)
          (m ((c : Thread Cert.KernelIdeal.nD Cert.KernelIdeal.τ).loc Cert.KernelIdeal.main_arg1) (ix1 0)) (m ((c : Thread Cert.KernelIdeal.nD Cert.KernelIdeal.τ).loc Cert.KernelIdeal.main_arg6) (ix1 0))
          (Cert.KernelIdeal.Gen.V m c Cert.KernelIdeal.main_v1) (Cert.KernelIdeal.Gen.V m c Cert.KernelIdeal.main_v2)
          (Cert.KernelIdeal.Gen.V m c Cert.KernelIdeal.main_v3) (Cert.KernelIdeal.Gen.V m c Cert.KernelIdeal.main_v4)
          (y 2).val ((y 1).val * 6 + (y 0).val) (y 3).val).setWidth 8)
        Cert.KernelIdeal.Gen.transposes_S6x5x7x1920_S6x7x5x1920_0_2_1_3 := by
  funext i
  have hi : i = ix4 (i 0 : Fin 6) (i 1 : Fin 7) (i 2 : Fin 5) (i 3 : Fin 1920) := by
    funext a; fin_cases a <;> rfl
  rw [hi]
  generalize (i 0 : Fin 6) = b
  generalize (i 1 : Fin 7) = ho
  generalize (i 2 : Fin 5) = wo
  generalize (i 3 : Fin 1920) = co
  have hx : ∀ (b : Fin 6) (w : Fin 10) (h : Fin 14) (c' : Fin 1280), (Cert.KernelIdeal.Gen.V m c Cert.KernelIdeal.main_v0 : Cert.KernelIdeal.S6x10x14x1280.Idx → BitVec 8) (ix4 b w h c') = aX V0 (ix4 b h w c') := by
    intro b w h c'
    rw [V_v0, h0]
    pointwise
  have hw : ∀ (kh kw : Fin 3) (co : Fin 1920) (j : Fin 640), (Cert.KernelIdeal.Gen.V m c Cert.KernelIdeal.main_v1 : Cert.KernelIdeal.S3x3x1920x640.Idx → BitVec 8) (ix4 kh kw co j) = aW V0 (ix4 co kh kw j) := by
    intro kh kw co j
    rw [V_v1, h2]
    pointwise
  have hB : ∀ co : Fin 1920, (Cert.KernelIdeal.Gen.V m c Cert.KernelIdeal.main_v2 : Cert.KernelIdeal.S1x1920.Idx → BitVec 32) (ix2 0 co) = aB V0 (ix1 co) := by
    intro co
    rw [V_v2, h3]
    pointwise
  have hM : ∀ co : Fin 1920, (Cert.KernelIdeal.Gen.V m c Cert.KernelIdeal.main_v3 : Cert.KernelIdeal.S1x1920.Idx → BitVec 32) (ix2 0 co) = aM V0 (ix1 co) := by
    intro co
    rw [V_v3, h4]
    pointwise
  have hS : ∀ co : Fin 1920, (Cert.KernelIdeal.Gen.V m c Cert.KernelIdeal.main_v4 : Cert.KernelIdeal.S1x1920.Idx → BitVec 32) (ix2 0 co) = aS V0 (ix1 co) := by
    intro co
    rw [V_v4, h5]
    pointwise
  have key := outN_eq V0 _ _ _ _ _ hx hw hB hM hS hz b ho wo co (hm co) (hb co) (hs co)
  refine (result_apply V0 b ho wo co (neg_shift _ (hs co))).trans ((congrArg (BitVec.setWidth 8) key.symm).trans ?_)
  rw [h1, h6]
  pointwise

/-- The kernel and the reference end with the same result. -/
theorem algebraic : Cert.algebraic_KernelIdeal_ReferenceIdeal_pre_in_range (hKernelIdeal := Cert.KernelIdeal.Gen.facts)
    (hReferenceIdeal := Cert.ReferenceIdeal.Gen.facts) (hPre_in_range := preFacts) := by
  intro m g m' g' hpre hagree
  refine ⟨fun c => Cert.ReferenceIdeal.Value.val6 (launchContents m' c) (Proc.devRef .tc Cert.ReferenceIdeal.main_v290), ?_, ?_⟩
  · have hz : ∀ c : Dev Cert.KernelIdeal.nD,
        -128 ≤ (m ((c : Thread Cert.KernelIdeal.nD Cert.KernelIdeal.τ).loc Cert.KernelIdeal.main_arg1) (ix1 0) : BitVec 32).toInt ∧
          (m ((c : Thread Cert.KernelIdeal.nD Cert.KernelIdeal.τ).loc Cert.KernelIdeal.main_arg1) (ix1 0) : BitVec 32).toInt ≤ 127 :=
      fun c => pre_zero (hpre c).1
    refine (θ_run Cert.KernelIdeal.defs _ _).mono (fun r h c => ⟨(h.1 c).trans ?_, h.2 c⟩)
      (θ_run_and (kernel_run m g hz) (Cert.KernelIdeal.Run.unchanged m g))
    obtain ⟨a0, a1, a2, a3, a4, a5, a6⟩ := hagree c
    have e1 : aZ (launchContents m' c) = (m ((c : Thread Cert.KernelIdeal.nD Cert.KernelIdeal.τ).loc Cert.KernelIdeal.main_arg1) : Cert.KernelIdeal.S1.Idx → BitVec 32) (ix1 0) :=
      congrFun a1 (ix1 0)
    have e4 : aM (launchContents m' c) = m ((c : Thread Cert.KernelIdeal.nD Cert.KernelIdeal.τ).loc Cert.KernelIdeal.main_arg4) := a4
    have e5 : aS (launchContents m' c) = m ((c : Thread Cert.KernelIdeal.nD Cert.KernelIdeal.τ).loc Cert.KernelIdeal.main_arg5) := a5
    exact (result_eq m c (launchContents m' c) a0 e1 a2 a3 e4 e5 (congrFun a6 (ix1 0)) (by rw [e1]; exact hz c)
      (fun co => by rw [e5]; exact pre_shift (hpre c).2.1 co) (fun co => by rw [e4]; exact pre_mult (hpre c).2.2.1 co)
      (fun co => by rw [e4, e5]; exact pre_both (hpre c).2.2.2 co)).symm
  · exact (θ_run Cert.ReferenceIdeal.defs _ _).mono
      (fun r h c => ⟨(h c).1.trans (Cert.ReferenceIdeal.Value.val6_main_v290 (launchContents m' c)).symm, (h c).2⟩)
      (Cert.ReferenceIdeal.Value.run (F := Ideal) m' g')

end Cert.Proof

end
-- ==== Proof.lean ====
module

public import proofs.«01_k».proof.Defs
public import proofs.«01_k».proof.Proof.FrameP
public import proofs.«01_k».proof.Proof.A1
public import proofs.«01_k».proof.Proof.Gen.ReferenceIdeal.Run
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The frame of the reference: its run, and it declares no semaphore. -/
theorem frame_r : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Every claim. The frames hold without the precondition; so they hold with it. -/
theorem claim : Cert.Claim := ⟨Cert.Kernel.Gen.facts, Cert.KernelIdeal.Gen.facts, Cert.ReferenceIdeal.Gen.facts, preFacts,
  fun m ρ _ => Cert.Conv.frame_kernel Bits m ρ, fun m ρ _ => Cert.KernelIdeal.Run.frame m ρ,
  fun m ρ _ => Cert.KernelIdeal.Run.frame m ρ, frame_r, fun m ρ _ => frame_r m ρ trivial, trivial, algebraic⟩

end Cert.Proof

end
